-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.bf16_pack.Statement Cert.KernelIdeal.S128x128
  ∧ IdealRules.bf16_pack.Statement Cert.KernelIdeal.S192x128
  ∧ IdealRules.bf16_pack.Statement Cert.KernelIdeal.S128x256
  ∧ IdealRules.bf16_pack.Statement Cert.KernelIdeal.S64x256
  ∧ IdealRules.bf16_pack.Statement Cert.KernelIdeal.S64x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x128x40x64 : Shape := ⟨4, ![2, 128, 40, 64]⟩
abbrev S2x128x40 : Shape := ⟨3, ![2, 128, 40]⟩
abbrev S2x40x64x64 : Shape := ⟨4, ![2, 40, 64, 64]⟩
abbrev S2 : Shape := ⟨1, ![2]⟩
abbrev S_ : Shape := ⟨0, ![]⟩

class Facts : Prop where
  bcast_S_S2x128x40x64 : S_.BroadcastsInDim S2x128x40x64 (![] : Fin 0 → Fin S2x128x40x64.rank)
  reducesTo_S2x128x40x64_S_d0_1_2_3 : S2x128x40x64.ReducesTo [0, 1, 2, 3] S_
  h_S_ : 0 < S_.numel
  bcast_S_S2x128x40 : S_.BroadcastsInDim S2x128x40 (![] : Fin 0 → Fin S2x128x40.rank)
  reducesTo_S2x128x40_S_d0_1_2 : S2x128x40.ReducesTo [0, 1, 2] S_
  bitsLt_bf16_f32 : FTy.bits .bf16 < FTy.bits .f32
  bcast_S_S2x40x64x64 : S_.BroadcastsInDim S2x40x64x64 (![] : Fin 0 → Fin S2x40x64x64.rank)
  reducesTo_S2x40x64x64_S_d0_1_2_3 : S2x40x64x64.ReducesTo [0, 1, 2, 3] S_

variable [Facts]

def fn_part2 {F : FTy → Type} [FloatOps F] (main_arg7 : FVec F S2x128x40x64 .bf16) (main_arg8 : FVec F S2x128x40x64 .bf16) (main_arg9 : FVec F S2x40x64x64 .f32) (main_v28 : IVec S_ 1) (main_v33 : IVec S_ 1) : IVec S_ 1 :=
  let main_v34 : IVec S_ 1 := andi main_v28 main_v33
  let main_v35 : FVec F S2x128x40x64 .f32 := (extf .f32 · bitsLt_bf16_f32) main_arg7
  let main_v36 : FVec F S2x128x40x64 .f32 := Host.absf main_v35
  let main_cst_12 : FVec F S_ .f32 := constant S_ .f32 0x7F800000#32
  let main_v37 : FVec F S2x128x40x64 .f32 := broadcastInDim S2x128x40x64 ![] bcast_S_S2x128x40x64 main_cst_12
  let main_v38 : IVec S2x128x40x64 1 := cmpf .olt main_v36 main_v37
  let main_c_13 : IVec S_ 1 := constantI S_ 1 1#1
  let main_v39 : IVec S_ 1 := (fun x v => Host.reduce IntOp.andi x v reducesTo_S2x128x40x64_S_d0_1_2_3 h_S_) main_v38 main_c_13
  let main_v40 : IVec S_ 1 := andi main_v34 main_v39
  let main_v41 : FVec F S2x128x40x64 .f32 := (extf .f32 · bitsLt_bf16_f32) main_arg8
  let main_v42 : FVec F S2x128x40x64 .f32 := Host.absf main_v41
  let main_cst_14 : FVec F S_ .f32 := constant S_ .f32 0x7F800000#32
  let main_v43 : FVec F S2x128x40x64 .f32 := broadcastInDim S2x128x40x64 ![] bcast_S_S2x128x40x64 main_cst_14
  let main_v44 : IVec S2x128x40x64 1 := cmpf .olt main_v42 main_v43
  let main_c_15 : IVec S_ 1 := constantI S_ 1 1#1
  let main_v45 : IVec S_ 1 := (fun x v => Host.reduce IntOp.andi x v reducesTo_S2x128x40x64_S_d0_1_2_3 h_S_) main_v44 main_c_15
  let main_v46 : IVec S_ 1 := andi main_v40 main_v45
  let main_v47 : FVec F S2x40x64x64 .f32 := Host.absf main_arg9
  let main_cst_16 : FVec F S_ .f32 := constant S_ .f32 0x7F800000#32
  let main_v48 : FVec F S2x40x64x64 .f32 := broadcastInDim S2x40x64x64 ![] bcast_S_S2x40x64x64 main_cst_16
  let main_v49 : IVec S2x40x64x64 1 := cmpf .olt main_v47 main_v48
  let main_c_17 : IVec S_ 1 := constantI S_ 1 1#1
  let main_v50 : IVec S_ 1 := (fun x v => Host.reduce IntOp.andi x v reducesTo_S2x40x64x64_S_d0_1_2_3 h_S_) main_v49 main_c_17
  let main_v51 : IVec S_ 1 := andi main_v46 main_v50
  main_v51

def fn_part1 {F : FTy → Type} [FloatOps F] (main_arg4 : FVec F S2x128x40 .f32) (main_arg5 : FVec F S2x128x40 .f32) (main_arg6 : FVec F S2x128x40x64 .bf16) (main_arg7 : FVec F S2x128x40x64 .bf16) (main_arg8 : FVec F S2x128x40x64 .bf16) (main_arg9 : FVec F S2x40x64x64 .f32) (main_v13 : IVec S_ 1) (main_v16 : IVec S2x128x40 1) : IVec S_ 1 :=
  let main_c_5 : IVec S_ 1 := constantI S_ 1 1#1
  let main_v17 : IVec S_ 1 := (fun x v => Host.reduce IntOp.andi x v reducesTo_S2x128x40_S_d0_1_2 h_S_) main_v16 main_c_5
  let main_v18 : IVec S_ 1 := andi main_v13 main_v17
  let main_v19 : FVec F S2x128x40 .f32 := Host.absf main_arg4
  let main_cst_6 : FVec F S_ .f32 := constant S_ .f32 0x7F800000#32
  let main_v20 : FVec F S2x128x40 .f32 := broadcastInDim S2x128x40 ![] bcast_S_S2x128x40 main_cst_6
  let main_v21 : IVec S2x128x40 1 := cmpf .olt main_v19 main_v20
  let main_c_7 : IVec S_ 1 := constantI S_ 1 1#1
  let main_v22 : IVec S_ 1 := (fun x v => Host.reduce IntOp.andi x v reducesTo_S2x128x40_S_d0_1_2 h_S_) main_v21 main_c_7
  let main_v23 : IVec S_ 1 := andi main_v18 main_v22
  let main_v24 : FVec F S2x128x40 .f32 := Host.absf main_arg5
  let main_cst_8 : FVec F S_ .f32 := constant S_ .f32 0x7F800000#32
  let main_v25 : FVec F S2x128x40 .f32 := broadcastInDim S2x128x40 ![] bcast_S_S2x128x40 main_cst_8
  let main_v26 : IVec S2x128x40 1 := cmpf .olt main_v24 main_v25
  let main_c_9 : IVec S_ 1 := constantI S_ 1 1#1
  let main_v27 : IVec S_ 1 := (fun x v => Host.reduce IntOp.andi x v reducesTo_S2x128x40_S_d0_1_2 h_S_) main_v26 main_c_9
  let main_v28 : IVec S_ 1 := andi main_v23 main_v27
  let main_v29 : FVec F S2x128x40x64 .f32 := (extf .f32 · bitsLt_bf16_f32) main_arg6
  let main_v30 : FVec F S2x128x40x64 .f32 := Host.absf main_v29
  let main_cst_10 : FVec F S_ .f32 := constant S_ .f32 0x7F800000#32
  let main_v31 : FVec F S2x128x40x64 .f32 := broadcastInDim S2x128x40x64 ![] bcast_S_S2x128x40x64 main_cst_10
  let main_v32 : IVec S2x128x40x64 1 := cmpf .olt main_v30 main_v31
  let main_c_11 : IVec S_ 1 := constantI S_ 1 1#1
  let main_v33 : IVec S_ 1 := (fun x v => Host.reduce IntOp.andi x v reducesTo_S2x128x40x64_S_d0_1_2_3 h_S_) main_v32 main_c_11
  fn_part2 (F := F) main_arg7 main_arg8 main_arg9 main_v28 main_v33

def fn {F : FTy → Type} [FloatOps F] (main_arg0 : FVec F S2x128x40x64 .f32) (main_arg1 : FVec F S2x128x40x64 .f32) (main_arg2 : FVec F S2x128x40x64 .f32) (main_arg3 : FVec F S2x128x40 .f32) (main_arg4 : FVec F S2x128x40 .f32) (main_arg5 : FVec F S2x128x40 .f32) (main_arg6 : FVec F S2x128x40x64 .bf16) (main_arg7 : FVec F S2x128x40x64 .bf16) (main_arg8 : FVec F S2x128x40x64 .bf16) (main_arg9 : FVec F S2x40x64x64 .f32) (main_arg10 : IVec S2 32) : IVec S_ 1 :=
  let main_v0 : FVec F S2x128x40x64 .f32 := Host.absf main_arg0
  let main_cst : FVec F S_ .f32 := constant S_ .f32 0x7F800000#32
  let main_v1 : FVec F S2x128x40x64 .f32 := broadcastInDim S2x128x40x64 ![] bcast_S_S2x128x40x64 main_cst
  let main_v2 : IVec S2x128x40x64 1 := cmpf .olt main_v0 main_v1
  let main_c : IVec S_ 1 := constantI S_ 1 1#1
  let main_v3 : IVec S_ 1 := (fun x v => Host.reduce IntOp.andi x v reducesTo_S2x128x40x64_S_d0_1_2_3 h_S_) main_v2 main_c
  let main_v4 : FVec F S2x128x40x64 .f32 := Host.absf main_arg1
  let main_cst_0 : FVec F S_ .f32 := constant S_ .f32 0x7F800000#32
  let main_v5 : FVec F S2x128x40x64 .f32 := broadcastInDim S2x128x40x64 ![] bcast_S_S2x128x40x64 main_cst_0
  let main_v6 : IVec S2x128x40x64 1 := cmpf .olt main_v4 main_v5
  let main_c_1 : IVec S_ 1 := constantI S_ 1 1#1
  let main_v7 : IVec S_ 1 := (fun x v => Host.reduce IntOp.andi x v reducesTo_S2x128x40x64_S_d0_1_2_3 h_S_) main_v6 main_c_1
  let main_v8 : IVec S_ 1 := andi main_v3 main_v7
  let main_v9 : FVec F S2x128x40x64 .f32 := Host.absf main_arg2
  let main_cst_2 : FVec F S_ .f32 := constant S_ .f32 0x7F800000#32
  let main_v10 : FVec F S2x128x40x64 .f32 := broadcastInDim S2x128x40x64 ![] bcast_S_S2x128x40x64 main_cst_2
  let main_v11 : IVec S2x128x40x64 1 := cmpf .olt main_v9 main_v10
  let main_c_3 : IVec S_ 1 := constantI S_ 1 1#1
  let main_v12 : IVec S_ 1 := (fun x v => Host.reduce IntOp.andi x v reducesTo_S2x128x40x64_S_d0_1_2_3 h_S_) main_v11 main_c_3
  let main_v13 : IVec S_ 1 := andi main_v8 main_v12
  let main_v14 : FVec F S2x128x40 .f32 := Host.absf main_arg3
  let main_cst_4 : FVec F S_ .f32 := constant S_ .f32 0x7F800000#32
  let main_v15 : FVec F S2x128x40 .f32 := broadcastInDim S2x128x40 ![] bcast_S_S2x128x40 main_cst_4
  let main_v16 : IVec S2x128x40 1 := cmpf .olt main_v14 main_v15
  fn_part1 (F := F) main_arg4 main_arg5 main_arg6 main_arg7 main_arg8 main_arg9 main_v13 main_v16
-- ==== Kernel.lean ====
abbrev S2x128x40x64 : Shape := ⟨4, ![2, 128, 40, 64]⟩
abbrev S2x128x40 : Shape := ⟨3, ![2, 128, 40]⟩
abbrev S2x40x64x64 : Shape := ⟨4, ![2, 40, 64, 64]⟩
abbrev S2 : Shape := ⟨1, ![2]⟩
abbrev S2x40x64x128 : Shape := ⟨4, ![2, 40, 64, 128]⟩
abbrev S2x40x128 : Shape := ⟨3, ![2, 40, 128]⟩
abbrev S1x2x64x128 : Shape := ⟨4, ![1, 2, 64, 128]⟩
abbrev S1x40x128 : Shape := ⟨3, ![1, 40, 128]⟩
abbrev S1x2x64x64 : Shape := ⟨4, ![1, 2, 64, 64]⟩
abbrev S1 : Shape := ⟨1, ![1]⟩
abbrev S1x128 : Shape := ⟨2, ![1, 128]⟩
abbrev S1x2x128 : Shape := ⟨3, ![1, 2, 128]⟩
abbrev S2x128 : Shape := ⟨2, ![2, 128]⟩
abbrev S64x128 : Shape := ⟨2, ![64, 128]⟩
abbrev S128x128 : Shape := ⟨2, ![128, 128]⟩
abbrev S2x64x128 : Shape := ⟨3, ![2, 64, 128]⟩
abbrev S128x256 : Shape := ⟨2, ![128, 256]⟩
abbrev S128x384 : Shape := ⟨2, ![128, 384]⟩
abbrev S384x256 : Shape := ⟨2, ![384, 256]⟩
abbrev S1x1x64x64 : Shape := ⟨4, ![1, 1, 64, 64]⟩
abbrev S64x64 : Shape := ⟨2, ![64, 64]⟩
abbrev S192x128 : Shape := ⟨2, ![192, 128]⟩
abbrev S64x256 : Shape := ⟨2, ![64, 256]⟩
abbrev S192x768 : Shape := ⟨2, ![192, 768]⟩
abbrev S768x256 : Shape := ⟨2, ![768, 256]⟩
abbrev S192x256 : Shape := ⟨2, ![192, 256]⟩
abbrev S1x64x128 : Shape := ⟨3, ![1, 64, 128]⟩
abbrev S64x192 : Shape := ⟨2, ![64, 192]⟩
abbrev S128x768 : Shape := ⟨2, ![128, 768]⟩
abbrev S768x128 : Shape := ⟨2, ![768, 128]⟩
abbrev S64x768 : Shape := ⟨2, ![64, 768]⟩
abbrev S1x1x64x128 : Shape := ⟨4, ![1, 1, 64, 128]⟩

abbrev nBuf : Space → Nat
  | .hbm => 26
  | .vmem => 24
  | .smem => 1
  | _ => 0

abbrev bufTy : (tb : Table) → Fin (tcTables nBuf tb) → BufTy
  | .hbm, ⟨0, _⟩ => ⟨S2x128x40x64, .f32⟩
  | .hbm, ⟨1, _⟩ => ⟨S2x128x40x64, .f32⟩
  | .hbm, ⟨2, _⟩ => ⟨S2x128x40x64, .f32⟩
  | .hbm, ⟨3, _⟩ => ⟨S2x128x40, .f32⟩
  | .hbm, ⟨4, _⟩ => ⟨S2x128x40, .f32⟩
  | .hbm, ⟨5, _⟩ => ⟨S2x128x40, .f32⟩
  | .hbm, ⟨6, _⟩ => ⟨S2x128x40x64, .bf16⟩
  | .hbm, ⟨7, _⟩ => ⟨S2x128x40x64, .bf16⟩
  | .hbm, ⟨8, _⟩ => ⟨S2x128x40x64, .bf16⟩
  | .hbm, ⟨9, _⟩ => ⟨S2x40x64x64, .f32⟩
  | .hbm, ⟨10, _⟩ => ⟨S2, .i32⟩
  | .hbm, ⟨11, _⟩ => ⟨S2x128x40x64, .fp8e4m3⟩
  | .hbm, ⟨12, _⟩ => ⟨S2x128x40x64, .fp8e4m3⟩
  | .hbm, ⟨13, _⟩ => ⟨S2x128x40x64, .fp8e4m3⟩
  | .hbm, ⟨14, _⟩ => ⟨S2x40x64x128, .fp8e4m3⟩
  | .hbm, ⟨15, _⟩ => ⟨S2x40x64x128, .fp8e4m3⟩
  | .hbm, ⟨16, _⟩ => ⟨S2x40x64x128, .fp8e4m3⟩
  | .hbm, ⟨17, _⟩ => ⟨S2x40x128, .f32⟩
  | .hbm, ⟨18, _⟩ => ⟨S2x40x128, .f32⟩
  | .hbm, ⟨19, _⟩ => ⟨S2x40x128, .f32⟩
  | .hbm, ⟨20, _⟩ => ⟨S2x40x64x128, .bf16⟩
  | .hbm, ⟨21, _⟩ => ⟨S2x40x64x128, .bf16⟩
  | .hbm, ⟨22, _⟩ => ⟨S2x40x64x128, .bf16⟩
  | .hbm, ⟨23, _⟩ => ⟨S2x40x64x128, .bf16⟩
  | .hbm, ⟨24, _⟩ => ⟨S2x40x64x64, .f32⟩
  | .hbm, ⟨25, _⟩ => ⟨S2x128x40x64, .bf16⟩
  | .local _ .vmem, ⟨0, _⟩ => ⟨S1x2x64x128, .fp8e4m3⟩
  | .local _ .vmem, ⟨1, _⟩ => ⟨S1x2x64x128, .fp8e4m3⟩
  | .local _ .vmem, ⟨2, _⟩ => ⟨S1x2x64x128, .fp8e4m3⟩
  | .local _ .vmem, ⟨3, _⟩ => ⟨S1x2x64x128, .fp8e4m3⟩
  | .local _ .vmem, ⟨4, _⟩ => ⟨S1x2x64x128, .fp8e4m3⟩
  | .local _ .vmem, ⟨5, _⟩ => ⟨S1x2x64x128, .fp8e4m3⟩
  | .local _ .vmem, ⟨6, _⟩ => ⟨S1x40x128, .f32⟩
  | .local _ .vmem, ⟨7, _⟩ => ⟨S1x40x128, .f32⟩
  | .local _ .vmem, ⟨8, _⟩ => ⟨S1x40x128, .f32⟩
  | .local _ .vmem, ⟨9, _⟩ => ⟨S1x40x128, .f32⟩
  | .local _ .vmem, ⟨10, _⟩ => ⟨S1x40x128, .f32⟩
  | .local _ .vmem, ⟨11, _⟩ => ⟨S1x40x128, .f32⟩
  | .local _ .vmem, ⟨12, _⟩ => ⟨S1x2x64x128, .bf16⟩
  | .local _ .vmem, ⟨13, _⟩ => ⟨S1x2x64x128, .bf16⟩
  | .local _ .vmem, ⟨14, _⟩ => ⟨S1x2x64x128, .bf16⟩
  | .local _ .vmem, ⟨15, _⟩ => ⟨S1x2x64x128, .bf16⟩
  | .local _ .vmem, ⟨16, _⟩ => ⟨S1x2x64x128, .bf16⟩
  | .local _ .vmem, ⟨17, _⟩ => ⟨S1x2x64x128, .bf16⟩
  | .local _ .vmem, ⟨18, _⟩ => ⟨S1x2x64x64, .f32⟩
  | .local _ .vmem, ⟨19, _⟩ => ⟨S1x2x64x64, .f32⟩
  | .local _ .vmem, ⟨20, _⟩ => ⟨S1x2x64x128, .bf16⟩
  | .local _ .vmem, ⟨21, _⟩ => ⟨S1x2x64x128, .bf16⟩
  | .local _ .vmem, ⟨22, _⟩ => ⟨S1x2x64x64, .f32⟩
  | .local _ .vmem, ⟨23, _⟩ => ⟨S1x2x64x64, .f32⟩
  | .local _ .smem, ⟨0, _⟩ => ⟨S2, .i32⟩
  | _, _ => ⟨S2x128x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v13 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [BitOps F]

abbrev grid0 : Pipeline.Grid := ⟨2, ![2, 20], ![false, false]⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 3 → Nat :=
  let c0 : Index := 0#32
  let c2_i32 : BitVec 32 := 2#32
  let arg1 : BitVec 32 := BitVec.ofNat 32 (i 1).val
  let v7 : BitVec 32 := Scalar.muli c2_i32 arg1
  let v8 : Index := Scalar.indexCast v7
  let c0_0 : Index := 0#32
  ![0, v8.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2x64x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x64x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x64x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x40x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x40x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2x64x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x64x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x64x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x64x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F]
-- ==== ReferenceIdeal.lean ====
abbrev S2x128x40x64 : Shape := ⟨4, ![2, 128, 40, 64]⟩
abbrev S2x128x40 : Shape := ⟨3, ![2, 128, 40]⟩
abbrev S2x40x64x64 : Shape := ⟨4, ![2, 40, 64, 64]⟩
abbrev S2 : Shape := ⟨1, ![2]⟩
abbrev S2x1x1 : Shape := ⟨3, ![2, 1, 1]⟩
abbrev S2x1x40x64 : Shape := ⟨4, ![2, 1, 40, 64]⟩
abbrev S2x40x64 : Shape := ⟨3, ![2, 40, 64]⟩
abbrev S2x1x40 : Shape := ⟨3, ![2, 1, 40]⟩
abbrev S2x40 : Shape := ⟨2, ![2, 40]⟩
abbrev S2x40x1 : Shape := ⟨3, ![2, 40, 1]⟩
abbrev S2x40x1x64 : Shape := ⟨4, ![2, 40, 1, 64]⟩
abbrev S2x40x64x1 : Shape := ⟨4, ![2, 40, 64, 1]⟩
abbrev S2x1x1x1 : Shape := ⟨4, ![2, 1, 1, 1]⟩

abbrev nBuf : Space → Nat
  | .hbm => 16
  | .vmem => 13
  | .smem => 0
  | _ => 0

abbrev bufTy : (tb : Table) → Fin (tcTables nBuf tb) → BufTy
  | .hbm, ⟨0, _⟩ => ⟨S2x128x40x64, .f32⟩
  | .hbm, ⟨1, _⟩ => ⟨S2x128x40x64, .f32⟩
  | .hbm, ⟨2, _⟩ => ⟨S2x128x40x64, .f32⟩
  | .hbm, ⟨3, _⟩ => ⟨S2x128x40, .f32⟩
  | .hbm, ⟨4, _⟩ => ⟨S2x128x40, .f32⟩
  | .hbm, ⟨5, _⟩ => ⟨S2x128x40, .f32⟩
  | .hbm, ⟨6, _⟩ => ⟨S2x128x40x64, .bf16⟩
  | .hbm, ⟨7, _⟩ => ⟨S2x128x40x64, .bf16⟩
  | .hbm, ⟨8, _⟩ => ⟨S2x128x40x64, .bf16⟩
  | .hbm, ⟨9, _⟩ => ⟨S2x40x64x64, .f32⟩
  | .hbm, ⟨10, _⟩ => ⟨S2, .i32⟩
  | .hbm, ⟨11, _⟩ => ⟨S2x128x40x64, .fp8e4m3⟩
  | .hbm, ⟨12, _⟩ => ⟨S2x128x40x64, .fp8e4m3⟩
  | .hbm, ⟨13, _⟩ => ⟨S2x128x40x64, .fp8e4m3⟩
  | .hbm, ⟨14, _⟩ => ⟨S2x128x40x64, .bf16⟩
  | .hbm, ⟨15, _⟩ => ⟨S2x40x64x64, .f32⟩
  | .local _ .vmem, ⟨0, _⟩ => ⟨S2x128x40x64, .fp8e4m3⟩
  | .local _ .vmem, ⟨1, _⟩ => ⟨S2x128x40x64, .fp8e4m3⟩
  | .local _ .vmem, ⟨2, _⟩ => ⟨S2x128x40x64, .fp8e4m3⟩
  | .local _ .vmem, ⟨3, _⟩ => ⟨S2x128x40, .f32⟩
  | .local _ .vmem, ⟨4, _⟩ => ⟨S2x128x40, .f32⟩
  | .local _ .vmem, ⟨5, _⟩ => ⟨S2x128x40, .f32⟩
  | .local _ .vmem, ⟨6, _⟩ => ⟨S2x128x40x64, .bf16⟩
  | .local _ .vmem, ⟨7, _⟩ => ⟨S2x128x40x64, .bf16⟩
  | .local _ .vmem, ⟨8, _⟩ => ⟨S2x128x40x64, .bf16⟩
  | .local _ .vmem, ⟨9, _⟩ => ⟨S2x40x64x64, .f32⟩
  | .local _ .vmem, ⟨10, _⟩ => ⟨S2, .i32⟩
  | .local _ .vmem, ⟨11, _⟩ => ⟨S2x128x40x64, .bf16⟩
  | .local _ .vmem, ⟨12, _⟩ => ⟨S2x40x64x64, .f32⟩
  | _, _ => ⟨S2x128x40x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c128_i32 : BitVec 32 := 128#32
  let v3 : BitVec 32 := Scalar.addi c0_i32 c128_i32
  let c1_i32 : BitVec 32 := 1#32
  ⟨c0_i32, v3, c1_i32⟩
def k0_off1 (k0_t1 : Fin k0_t1_loop.trips) : Fin 4 → Nat :=
  let c0_9 : Index := 0#32
  let c0_i32 : BitVec 32 := 0#32
  let c1_i32 : BitVec 32 := 1#32
  let arg13 : BitVec 32 := Scf.iv c0_i32 c1_i32 k0_t1
  let v6 : Index := Scalar.indexCast arg13
  let c0_10 : Index := 0#32
  let c0_11 : Index := 0#32
  ![0, v6.toNat, 0, 0]
def k0_off2 (k0_t1 : Fin k0_t1_loop.trips) : Fin 3 → Nat :=
  let c0_12 : Index := 0#32
  let c0_i32 : BitVec 32 := 0#32
  let c1_i32 : BitVec 32 := 1#32
  let arg13 : BitVec 32 := Scf.iv c0_i32 c1_i32 k0_t1
  let v10 : Index := Scalar.indexCast arg13
  let c0_13 : Index := 0#32
  ![0, v10.toNat, 0]
abbrev stage0_0 : Fin 1 → Memref sig .tc .vmem S2x128x40x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128x40x64 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x40x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x40 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x40 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x40x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x40x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x40x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x40x64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128x40x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x40x64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Lift.lean ====
module

public import proofs.«01_k».proof.Proof.Gen.KernelIdeal.Skeleton
public import Idealize.ShloMosaic.Lib.Pointwise
public import Mathlib.Data.Matrix.Mul
public import Mathlib.Data.EReal.Operations

/-! Vectors of finite values: `up M` is the vector whose entries are the reals of `M`, and each vector
operation of the kernel on such vectors is again one.  The six-product form of a float32 matrix product is
the plain product. -/

@[expose] public section

set_option maxRecDepth 16384

noncomputable section

namespace Cert.WKV

open Idealize.ShloMosaic Cert.KernelIdeal Cert.KernelIdeal.Gen

/-- A finite sum of reals, read among the extended reals. -/
theorem coe_sum {ι : Type*} (s : Finset ι) (f : ι → ℝ) :
    ((∑ i ∈ s, f i : ℝ) : EReal) = ∑ i ∈ s, ((f i : ℝ) : EReal) :=
  map_sum (⟨⟨Real.toEReal, EReal.coe_zero⟩, EReal.coe_add⟩ : ℝ →+ EReal) f s

/-- The vector whose entries are the reals of `M`. -/
def up {m n : ℕ} {φ : FTy} (M : Matrix (Fin m) (Fin n) ℝ) : FVec Ideal ⟨2, ![m, n]⟩ φ :=
  fun i => ((M (i 0) (i 1) : ℝ) : EReal)

/-- An entry of `up M`. -/
theorem up_ix2 {m n : ℕ} {φ : FTy} (M : Matrix (Fin m) (Fin n) ℝ) (a : Fin m) (b : Fin n) :
    up (φ := φ) M (ix2 a b) = ((M a b : ℝ) : EReal) := rfl

/-- The difference of two vectors of reals. -/
theorem subf_up {m n : ℕ} {φ : FTy} (M N : Matrix (Fin m) (Fin n) ℝ) :
    subf (up (φ := φ) M) (up N) = up (M - N) := by
  funext i; exact (EReal.coe_sub _ _).symm

/-- The sum of two vectors of reals. -/
theorem addf_up {m n : ℕ} {φ : FTy} (M N : Matrix (Fin m) (Fin n) ℝ) :
    addf (up (φ := φ) M) (up N) = up (M + N) := by
  funext i; exact (EReal.coe_add _ _).symm

/-- The entrywise product. -/
def had {m n : ℕ} (M N : Matrix (Fin m) (Fin n) ℝ) : Matrix (Fin m) (Fin n) ℝ := fun i j => M i j * N i j

/-- The entrywise exponential. -/
def ex {m n : ℕ} (M : Matrix (Fin m) (Fin n) ℝ) : Matrix (Fin m) (Fin n) ℝ := fun i j => Real.exp (M i j)

/-- One row repeated. -/
def row {m n : ℕ} (M : Matrix (Fin 1) (Fin n) ℝ) : Matrix (Fin m) (Fin n) ℝ := fun _ j => M 0 j

/-- The entrywise product of two vectors of reals. -/
theorem mulf_up {m n : ℕ} {φ : FTy} (M N : Matrix (Fin m) (Fin n) ℝ) :
    mulf (up (φ := φ) M) (up N) = up (had M N) := by
  funext i; exact (EReal.coe_mul _ _).symm

/-- The entrywise exponential of a vector of reals. -/
theorem exp_up {m n : ℕ} {φ : FTy} (M : Matrix (Fin m) (Fin n) ℝ) :
    exp (up (φ := φ) M) = up (ex M) := rfl

/-- A narrowing cast of a vector of reals. -/
theorem truncf_up {m n : ℕ} {φ ψ : FTy} (M : Matrix (Fin m) (Fin n) ℝ) (h : ψ.bits < φ.bits) :
    truncf ψ (up (φ := φ) M) h = up M := rfl

/-- A widening cast of a vector of reals. -/
theorem extf_up {m n : ℕ} {φ ψ : FTy} (M : Matrix (Fin m) (Fin n) ℝ) (h : φ.bits < ψ.bits) :
    extf ψ (up (φ := φ) M) h = up M := rfl

/-- The vector of float32 zeros. -/
theorem zeros_up {m n : ℕ} :
    (broadcast ⟨2, ![m, n]⟩ (Scalar.ofBits (F := Ideal) .f32 0x00000000#32) : FVec Ideal ⟨2, ![m, n]⟩ .f32) = up 0 := by
  funext i
  exact Ideal.ofBits_zero_f32.trans EReal.coe_zero.symm

/-- Two equal shapes put together. -/
def cat2 {α : Type} {s t : Shape} (d : Fin t.rank) (h : Shape.Concatenates [s, s] t d) (x1 x2 : s.Idx → α) : t.Idx → α :=
  concatenate t d [⟨s, x1⟩, ⟨s, x2⟩] h

/-- Three equal shapes put together. -/
def cat3 {α : Type} {s t : Shape} (d : Fin t.rank) (h : Shape.Concatenates [s, s, s] t d) (x1 x2 x3 : s.Idx → α) : t.Idx → α :=
  concatenate t d [⟨s, x1⟩, ⟨s, x2⟩, ⟨s, x3⟩] h

/-- Six equal shapes put together. -/
def cat6 {α : Type} {s t : Shape} (d : Fin t.rank) (h : Shape.Concatenates [s, s, s, s, s, s] t d) (x1 x2 x3 x4 x5 x6 : s.Idx → α) : t.Idx → α :=
  concatenate t d [⟨s, x1⟩, ⟨s, x2⟩, ⟨s, x3⟩, ⟨s, x4⟩, ⟨s, x5⟩, ⟨s, x6⟩] h

/-- The list of two as an argument each. -/
theorem cat2_eq {α : Type} {s t : Shape} (d : Fin t.rank) (x1 x2 : s.Idx → α) (h) :
    concatenate t d [⟨s, x1⟩, ⟨s, x2⟩] h = cat2 d h x1 x2 := rfl

/-- The list of three as an argument each. -/
theorem cat3_eq {α : Type} {s t : Shape} (d : Fin t.rank) (x1 x2 x3 : s.Idx → α) (h) :
    concatenate t d [⟨s, x1⟩, ⟨s, x2⟩, ⟨s, x3⟩] h = cat3 d h x1 x2 x3 := rfl

/-- The list of six as an argument each. -/
theorem cat6_eq {α : Type} {s t : Shape} (d : Fin t.rank) (x1 x2 x3 x4 x5 x6 : s.Idx → α) (h) :
    concatenate t d [⟨s, x1⟩, ⟨s, x2⟩, ⟨s, x3⟩, ⟨s, x4⟩, ⟨s, x5⟩, ⟨s, x6⟩] h = cat6 d h x1 x2 x3 x4 x5 x6 := rfl

/-- A number moved up by at least the bound is not below it. -/
theorem add_lt_false (k c d : ℕ) (h : d ≤ c) : (k + c < d) ↔ False := by
  simp only [iff_false]; omega

/-- A sum over 768 places cut into six runs of 128. -/
theorem sum_768 (f : Fin 768 → EReal) :
    ∑ x, f x = ∑ k : Fin 128, (f ⟨k, by omega⟩ + (f ⟨k + 128, by omega⟩ + (f ⟨k + 256, by omega⟩ +
      (f ⟨k + 384, by omega⟩ + (f ⟨k + 512, by omega⟩ + f ⟨k + 640, by omega⟩))))) := by
  simp only [Finset.sum_add_distrib]
  rw [show (∑ x, f x) = ∑ x : Fin (128 + (128 + (128 + (128 + (128 + 128))))), f x from rfl,
    Fin.sum_univ_add, Fin.sum_univ_add, Fin.sum_univ_add, Fin.sum_univ_add, Fin.sum_univ_add]
  refine congrArg₂ _ rfl (congrArg₂ _ ?_ (congrArg₂ _ ?_ (congrArg₂ _ ?_ (congrArg₂ _ ?_ ?_)))) <;>
    exact Finset.sum_congr rfl fun k _ => congrArg f (Fin.ext (by simp [Fin.natAdd]; omega))

/-- A sum over 384 places cut into three runs of 128. -/
theorem sum_384 (f : Fin 384 → EReal) :
    ∑ x, f x = ∑ k : Fin 128, (f ⟨k, by omega⟩ + (f ⟨k + 128, by omega⟩ + f ⟨k + 256, by omega⟩)) := by
  simp only [Finset.sum_add_distrib]
  rw [show (∑ x, f x) = ∑ x : Fin (128 + (128 + 128)), f x from rfl, Fin.sum_univ_add, Fin.sum_univ_add]
  refine congrArg₂ _ rfl (congrArg₂ _ ?_ ?_) <;>
    exact Finset.sum_congr rfl fun k _ => congrArg f (Fin.ext (by simp [Fin.natAdd]; omega))

/-- A sum over 192 places cut into three runs of 64. -/
theorem sum_192 (f : Fin 192 → EReal) :
    ∑ x, f x = ∑ k : Fin 64, (f ⟨k, by omega⟩ + (f ⟨k + 64, by omega⟩ + f ⟨k + 128, by omega⟩)) := by
  simp only [Finset.sum_add_distrib]
  rw [show (∑ x, f x) = ∑ x : Fin (64 + (64 + 64)), f x from rfl, Fin.sum_univ_add, Fin.sum_univ_add]
  refine congrArg₂ _ rfl (congrArg₂ _ ?_ ?_) <;>
    exact Finset.sum_congr rfl fun k _ => congrArg f (Fin.ext (by simp [Fin.natAdd]; omega))

/-- The six products of the three parts of two float32 factors (128 by 128 and 128 by 128), when the two lower
parts of each are zero: the plain product. -/
theorem dot6_128_128 (A : Matrix (Fin 128) (Fin 128) ℝ) (B : Matrix (Fin 128) (Fin 128) ℝ) (h1 h2) :
    matmul dot_S128x768_S768x128_S128x128_1_0_0_1_n_n none
      (cat6 (t := S128x768) 1 h1 (up A : FVec Ideal S128x128 .bf16) (up A : FVec Ideal S128x128 .bf16) (up 0 : FVec Ideal S128x128 .bf16) (up 0 : FVec Ideal S128x128 .bf16) (up A : FVec Ideal S128x128 .bf16) (up 0 : FVec Ideal S128x128 .bf16))
      (cat6 (t := S768x128) 0 h2 (up B : FVec Ideal S128x128 .bf16) (up 0 : FVec Ideal S128x128 .bf16) (up B : FVec Ideal S128x128 .bf16) (up 0 : FVec Ideal S128x128 .bf16) (up 0 : FVec Ideal S128x128 .bf16) (up B : FVec Ideal S128x128 .bf16))
      (constant (F := Ideal) S128x128 .f32 0x00000000#32)
    = up (A * B) := by
  funext y
  idx_vars y
  unfold cat6
  pointwise
  rw [sum_768]
  simp [up_ix2, Matrix.mul_apply, coe_sum, add_lt_false]

/-- The six products of the three parts of two float32 factors (64 by 128 and 128 by 128), when the two lower
parts of each are zero: the plain product. -/
theorem dot6_64_128 (A : Matrix (Fin 64) (Fin 128) ℝ) (B : Matrix (Fin 128) (Fin 128) ℝ) (h1 h2) :
    matmul dot_S64x768_S768x128_S64x128_1_0_0_1_n_n none
      (cat6 (t := S64x768) 1 h1 (up A : FVec Ideal S64x128 .bf16) (up A : FVec Ideal S64x128 .bf16) (up 0 : FVec Ideal S64x128 .bf16) (up 0 : FVec Ideal S64x128 .bf16) (up A : FVec Ideal S64x128 .bf16) (up 0 : FVec Ideal S64x128 .bf16))
      (cat6 (t := S768x128) 0 h2 (up B : FVec Ideal S128x128 .bf16) (up 0 : FVec Ideal S128x128 .bf16) (up B : FVec Ideal S128x128 .bf16) (up 0 : FVec Ideal S128x128 .bf16) (up 0 : FVec Ideal S128x128 .bf16) (up B : FVec Ideal S128x128 .bf16))
      (constant (F := Ideal) S64x128 .f32 0x00000000#32)
    = up (A * B) := by
  funext y
  idx_vars y
  unfold cat6
  pointwise
  rw [sum_768]
  simp [up_ix2, Matrix.mul_apply, coe_sum, add_lt_false]

/-- The six products of the three parts of two float32 factors (64 by 128 and 128 by 256), when the two lower
parts of each are zero: the plain product. -/
theorem dot6_64_256 (A : Matrix (Fin 64) (Fin 128) ℝ) (B : Matrix (Fin 128) (Fin 256) ℝ) (h1 h2) :
    matmul dot_S64x768_S768x256_S64x256_1_0_0_1_n_n none
      (cat6 (t := S64x768) 1 h1 (up A : FVec Ideal S64x128 .bf16) (up A : FVec Ideal S64x128 .bf16) (up 0 : FVec Ideal S64x128 .bf16) (up 0 : FVec Ideal S64x128 .bf16) (up A : FVec Ideal S64x128 .bf16) (up 0 : FVec Ideal S64x128 .bf16))
      (cat6 (t := S768x256) 0 h2 (up B : FVec Ideal S128x256 .bf16) (up 0 : FVec Ideal S128x256 .bf16) (up B : FVec Ideal S128x256 .bf16) (up 0 : FVec Ideal S128x256 .bf16) (up 0 : FVec Ideal S128x256 .bf16) (up B : FVec Ideal S128x256 .bf16))
      (constant (F := Ideal) S64x256 .f32 0x00000000#32)
    = up (A * B) := by
  funext y
  idx_vars y
  unfold cat6
  pointwise
  rw [sum_768]
  simp [up_ix2, Matrix.mul_apply, coe_sum, add_lt_false]

/-- The six products of the three parts of two float32 factors (192 by 128 and 128 by 256), when the two lower
parts of each are zero: the plain product. -/
theorem dot6_192_256 (A : Matrix (Fin 192) (Fin 128) ℝ) (B : Matrix (Fin 128) (Fin 256) ℝ) (h1 h2) :
    matmul dot_S192x768_S768x256_S192x256_1_0_0_1_n_n none
      (cat6 (t := S192x768) 1 h1 (up A : FVec Ideal S192x128 .bf16) (up A : FVec Ideal S192x128 .bf16) (up 0 : FVec Ideal S192x128 .bf16) (up 0 : FVec Ideal S192x128 .bf16) (up A : FVec Ideal S192x128 .bf16) (up 0 : FVec Ideal S192x128 .bf16))
      (cat6 (t := S768x256) 0 h2 (up B : FVec Ideal S128x256 .bf16) (up 0 : FVec Ideal S128x256 .bf16) (up B : FVec Ideal S128x256 .bf16) (up 0 : FVec Ideal S128x256 .bf16) (up 0 : FVec Ideal S128x256 .bf16) (up B : FVec Ideal S128x256 .bf16))
      (constant (F := Ideal) S192x256 .f32 0x00000000#32)
    = up (A * B) := by
  funext y
  idx_vars y
  unfold cat6
  pointwise
  rw [sum_768]
  simp [up_ix2, Matrix.mul_apply, coe_sum, add_lt_false]

/-- The product of a factor in three parts, of which two are zero, with a factor that is exact. -/
theorem dot3_left (A : Matrix (Fin 128) (Fin 128) ℝ) (B : Matrix (Fin 128) (Fin 256) ℝ) (h1 h2) :
    matmul dot_S128x384_S384x256_S128x256_1_0_0_1_n_n none
      (cat3 (t := S128x384) 1 h1 (up A : FVec Ideal S128x128 .bf16) (up 0 : FVec Ideal S128x128 .bf16) (up 0 : FVec Ideal S128x128 .bf16))
      (cat3 (t := S384x256) 0 h2 (up B : FVec Ideal S128x256 .bf16) (up B : FVec Ideal S128x256 .bf16) (up B : FVec Ideal S128x256 .bf16))
      (constant (F := Ideal) S128x256 .f32 0x00000000#32)
    = up (A * B) := by
  funext y
  idx_vars y
  unfold cat3
  pointwise
  rw [sum_384]
  simp [up_ix2, Matrix.mul_apply, coe_sum, add_lt_false]

/-- The product of a factor that is exact with a factor in three parts, of which two are zero. -/
theorem dot3_right (A : Matrix (Fin 64) (Fin 64) ℝ) (B : Matrix (Fin 64) (Fin 256) ℝ) (h1 h2) :
    matmul dot_S64x192_S192x256_S64x256_1_0_0_1_n_n none
      (cat3 (t := S64x192) 1 h1 (up A : FVec Ideal S64x64 .bf16) (up A : FVec Ideal S64x64 .bf16) (up A : FVec Ideal S64x64 .bf16))
      (cat3 (t := S192x256) 0 h2 (up B : FVec Ideal S64x256 .bf16) (up 0 : FVec Ideal S64x256 .bf16) (up 0 : FVec Ideal S64x256 .bf16))
      (constant (F := Ideal) S64x256 .f32 0x00000000#32)
    = up (A * B) := by
  funext y
  idx_vars y
  unfold cat3
  pointwise
  rw [sum_192]
  simp [up_ix2, Matrix.mul_apply, coe_sum, add_lt_false]

/-- Side by side. -/
def hcat {m p q n : ℕ} (h : n = p + q) (A : Matrix (Fin m) (Fin p) ℝ) (B : Matrix (Fin m) (Fin q) ℝ) : Matrix (Fin m) (Fin n) ℝ :=
  fun i j => if hj : (j : ℕ) < p then A i ⟨j, hj⟩ else B i ⟨j - p, by omega⟩

/-- One above the other. -/
def vcat {p q m n : ℕ} (h : m = p + q) (A : Matrix (Fin p) (Fin n) ℝ) (B : Matrix (Fin q) (Fin n) ℝ) : Matrix (Fin m) (Fin n) ℝ :=
  fun i j => if hi : (i : ℕ) < p then A ⟨i, hi⟩ j else B ⟨i - p, by omega⟩ j

/-- The rectangle of `M` at row `a`, column `b`. -/
def sub {m n p q : ℕ} (a b : ℕ) (h : a + p ≤ m ∧ b + q ≤ n) (M : Matrix (Fin m) (Fin n) ℝ) : Matrix (Fin p) (Fin q) ℝ :=
  fun i j => M ⟨a + i, by omega⟩ ⟨b + j, by omega⟩

/-- Lanes exchanged by halves. -/
def swap (M : Matrix (Fin 64) (Fin 128) ℝ) : Matrix (Fin 64) (Fin 128) ℝ :=
  fun i j => M i ⟨(j + 64) % 128, by omega⟩

/-- A vector of truth values. -/
def bm {m n : ℕ} (p : Fin m → Fin n → Bool) : IVec ⟨2, ![m, n]⟩ 1 :=
  fun i => BitVec.ofBool (p (i 0) (i 1))

/-- The entrywise choice between two matrices. -/
def pick {m n : ℕ} (p : Fin m → Fin n → Bool) (M N : Matrix (Fin m) (Fin n) ℝ) : Matrix (Fin m) (Fin n) ℝ :=
  fun i j => if p i j = true then M i j else N i j

/-- An entrywise choice between two vectors of reals. -/
theorem select_up {m n : ℕ} {φ : FTy} (p : Fin m → Fin n → Bool) (M N : Matrix (Fin m) (Fin n) ℝ) :
    select (bm p) (up (φ := φ) M) (up N) = up (pick p M N) := by
  funext i
  cases h : p (i 0) (i 1) <;> simp [select, bm, up, pick, h, Scalar.select]

/-- Two vectors of reals side by side (64 and 64 lanes). -/
theorem hcat_up_64 {φ : FTy} (A B : Matrix (Fin 64) (Fin 64) ℝ) (h) :
    cat2 (t := S64x128) 1 h (up A : FVec Ideal S64x64 φ) (up B : FVec Ideal S64x64 φ)
      = up (hcat (by norm_num) A B) := by
  funext y
  idx_vars y
  unfold cat2
  pointwise
  simp only [up_ix2, hcat]
  split <;> rfl

/-- Two vectors of reals side by side (128 and 128 lanes). -/
theorem hcat_up_128 {φ : FTy} (A B : Matrix (Fin 64) (Fin 128) ℝ) (h) :
    cat2 (t := S64x256) 1 h (up A : FVec Ideal S64x128 φ) (up B : FVec Ideal S64x128 φ)
      = up (hcat (by norm_num) A B) := by
  funext y
  idx_vars y
  unfold cat2
  pointwise
  simp only [up_ix2, hcat]
  split <;> rfl

/-- Two vectors of reals, one above the other (64 rows of 256 lanes each). -/
theorem vcat_up_256 {φ : FTy} (A B : Matrix (Fin 64) (Fin 256) ℝ) (h) :
    cat2 (t := S128x256) 0 h (up A : FVec Ideal S64x256 φ) (up B : FVec Ideal S64x256 φ)
      = up (vcat (by norm_num) A B) := by
  funext y
  idx_vars y
  unfold cat2
  pointwise
  simp only [up_ix2, vcat]
  split <;> rfl

/-- Two vectors of reals, one above the other (64 rows of 128 lanes each). -/
theorem vcat_up_128 {φ : FTy} (A B : Matrix (Fin 64) (Fin 128) ℝ) (h) :
    cat2 (t := S128x128) 0 h (up A : FVec Ideal S64x128 φ) (up B : FVec Ideal S64x128 φ)
      = up (vcat (by norm_num) A B) := by
  funext y
  idx_vars y
  unfold cat2
  pointwise
  simp only [up_ix2, vcat]
  split <;> rfl

/-- Three vectors of reals, one above the other. -/
theorem vcat3_up {φ : FTy} (A B C : Matrix (Fin 64) (Fin 128) ℝ) (h) :
    cat3 (t := S192x128) 0 h (up A : FVec Ideal S64x128 φ) (up B : FVec Ideal S64x128 φ) (up C : FVec Ideal S64x128 φ)
      = up (vcat (p := 64) (q := 128) (by norm_num) A (vcat (by norm_num) B C)) := by
  funext y
  idx_vars y
  unfold cat3
  pointwise
  simp only [up_ix2, vcat]
  split
  · rfl
  · split <;> rfl

/-- A rectangle cut out of a vector of reals. -/
theorem sub_up_128_128_64_128 {φ : FTy} (a b : ℕ) (M : Matrix (Fin 128) (Fin 128) ℝ) (hab : a + 64 ≤ 128 ∧ b + 128 ≤ 128) (h) :
    extractStridedSlice S64x128 ![a, b] (up M : FVec Ideal S128x128 φ) h = up (sub a b hab M) := by
  funext y
  idx_vars y
  pointwise
  simp [up_ix2, sub]

/-- A rectangle cut out of a vector of reals. -/
theorem sub_up_192_128_64_128 {φ : FTy} (a b : ℕ) (M : Matrix (Fin 192) (Fin 128) ℝ) (hab : a + 64 ≤ 192 ∧ b + 128 ≤ 128) (h) :
    extractStridedSlice S64x128 ![a, b] (up M : FVec Ideal S192x128 φ) h = up (sub a b hab M) := by
  funext y
  idx_vars y
  pointwise
  simp [up_ix2, sub]

/-- A rectangle cut out of a vector of reals. -/
theorem sub_up_192_256_192_128 {φ : FTy} (a b : ℕ) (M : Matrix (Fin 192) (Fin 256) ℝ) (hab : a + 192 ≤ 192 ∧ b + 128 ≤ 256) (h) :
    extractStridedSlice S192x128 ![a, b] (up M : FVec Ideal S192x256 φ) h = up (sub a b hab M) := by
  funext y
  idx_vars y
  pointwise
  simp [up_ix2, sub]

/-- A rectangle cut out of a vector of reals. -/
theorem sub_up_64_256_64_128 {φ : FTy} (a b : ℕ) (M : Matrix (Fin 64) (Fin 256) ℝ) (hab : a + 64 ≤ 64 ∧ b + 128 ≤ 256) (h) :
    extractStridedSlice S64x128 ![a, b] (up M : FVec Ideal S64x256 φ) h = up (sub a b hab M) := by
  funext y
  idx_vars y
  pointwise
  simp [up_ix2, sub]

/-- A rectangle cut out of a vector of reals. -/
theorem sub_up_128_256_128_128 {φ : FTy} (a b : ℕ) (M : Matrix (Fin 128) (Fin 256) ℝ) (hab : a + 128 ≤ 128 ∧ b + 128 ≤ 256) (h) :
    extractStridedSlice S128x128 ![a, b] (up M : FVec Ideal S128x256 φ) h = up (sub a b hab M) := by
  funext y
  idx_vars y
  pointwise
  simp [up_ix2, sub]

/-- A rectangle cut out of a vector of reals. -/
theorem sub_up_64_128_64_64 {φ : FTy} (a b : ℕ) (M : Matrix (Fin 64) (Fin 128) ℝ) (hab : a + 64 ≤ 64 ∧ b + 64 ≤ 128) (h) :
    extractStridedSlice S64x64 ![a, b] (up M : FVec Ideal S64x128 φ) h = up (sub a b hab M) := by
  funext y
  idx_vars y
  pointwise
  simp [up_ix2, sub]

/-- A rectangle cut out of a vector of reals. -/
theorem sub_up_128_128_1_128 {φ : FTy} (a b : ℕ) (M : Matrix (Fin 128) (Fin 128) ℝ) (hab : a + 1 ≤ 128 ∧ b + 128 ≤ 128) (h) :
    extractStridedSlice S1x128 ![a, b] (up M : FVec Ideal S128x128 φ) h = up (sub a b hab M) := by
  funext y
  idx_vars y
  pointwise
  simp [up_ix2, sub]

/-- A rotation by 64 of 128 lanes exchanges the halves. -/
theorem swap_up {φ : FTy} (M : Matrix (Fin 64) (Fin 128) ℝ) (h) :
    dynamicRotate 1 64#32 none (up M : FVec Ideal S64x128 φ) h = up (swap M) := by
  funext y
  idx_vars y
  pointwise
  rfl

/-- One row of reals, repeated. -/
theorem row_up_64 {φ : FTy} (M : Matrix (Fin 1) (Fin 128) ℝ) (h) :
    broadcastTo S64x128 (up M : FVec Ideal S1x128 φ) h = up (row M) := by
  funext y
  idx_vars y
  pointwise
  rfl

/-- One row of reals, repeated. -/
theorem row_up_128 {φ : FTy} (M : Matrix (Fin 1) (Fin 128) ℝ) (h) :
    broadcastTo S128x128 (up M : FVec Ideal S1x128 φ) h = up (row M) := by
  funext y
  idx_vars y
  pointwise
  rfl

/-- Rows and columns exchanged. -/
theorem transpose_up {φ : FTy} (M : Matrix (Fin 128) (Fin 128) ℝ) (h) :
    transpose S128x128 [1, 0] (up M : FVec Ideal S128x128 φ) h = up M.transpose := by
  funext y
  idx_vars y
  pointwise
  rfl

/-- The vector of rank 3 whose entries are the reals of `V`. -/
def up3 {l m n : ℕ} {φ : FTy} (V : Fin l → Matrix (Fin m) (Fin n) ℝ) : FVec Ideal ⟨3, ![l, m, n]⟩ φ :=
  fun i => ((V (i 0) (i 1) (i 2) : ℝ) : EReal)

/-- An entry of `up3 V`. -/
theorem up3_ix3 {l m n : ℕ} {φ : FTy} (V : Fin l → Matrix (Fin m) (Fin n) ℝ) (a : Fin l) (b : Fin m) (c : Fin n) :
    up3 (φ := φ) V (ix3 a b c) = ((V a b c : ℝ) : EReal) := rfl

/-- The vector of rank 4 whose entries are the reals of `V`. -/
def up4 {k l m n : ℕ} {φ : FTy} (V : Fin k → Fin l → Matrix (Fin m) (Fin n) ℝ) : FVec Ideal ⟨4, ![k, l, m, n]⟩ φ :=
  fun i => ((V (i 0) (i 1) (i 2) (i 3) : ℝ) : EReal)

/-- An entry of `up4 V`. -/
theorem up4_ix4 {k l m n : ℕ} {φ : FTy} (V : Fin k → Fin l → Matrix (Fin m) (Fin n) ℝ) (a : Fin k) (b : Fin l) (c : Fin m) (d : Fin n) :
    up4 (φ := φ) V (ix4 a b c d) = ((V a b c d : ℝ) : EReal) := rfl

/-- One chunk of one head's values. -/
theorem slab_up {φ : FTy} (V : Fin 2 → Matrix (Fin 64) (Fin 128) ℝ) (h o : ℕ) (hh : h < 2) (ho : o + 64 ≤ 128) (h1 h2 h3) :
    extractStridedSlice S64x64 ![0, o] (shapeCast S64x128 (extractStridedSlice S1x64x128 ![h, 0, 0] (up3 V : FVec Ideal S2x64x128 φ) h1) h2) h3
      = up (sub 0 o (by omega) (V ⟨h, hh⟩)) := by
  funext y
  idx_vars y
  pointwise
  simp [up_ix2, up3_ix3, sub]

/-- The unit matrix, from the comparison of row and column numbers. -/
theorem eye_up (h0 h1 hlt) :
    (sitofp .f32 (extui 32 (cmpi .eq (iota .tc S128x128 32 [0] h0) (iota .tc S128x128 32 [1] h1)) hlt) : FVec Ideal S128x128 .f32) = up 1 := by
  have key : ∀ a b : Fin 128, (BitVec.ofNat 32 a.val = BitVec.ofNat 32 b.val) ↔ a = b := by
    intro a b
    constructor
    · intro h
      have h' := congrArg BitVec.toNat h
      simp only [BitVec.toNat_ofNat] at h'
      exact Fin.ext (by omega)
    · rintro rfl; rfl
  funext y
  idx_vars y
  pointwise
  simp only [up_ix2, Matrix.one_apply, ← key]
  change (((BitVec.setWidth 32 (IntOp.cmpi CmpIPredicate.eq (BitVec.ofNat 32 ↑y0) (BitVec.ofNat 32 ↑y1))).toInt : ℝ) : EReal) = _
  by_cases h : BitVec.ofNat 32 y0.val = BitVec.ofNat 32 y1.val
  · simp [IntOp.cmpi, h]
  · have hb : (BitVec.ofNat 32 y0.val == BitVec.ofNat 32 y1.val) = false := beq_eq_false_iff_ne.mpr h
    simp only [IntOp.cmpi, hb, h, if_false]
    simp

/-- The rectangle at row 0, column 0 of a vector of reals. -/
theorem cut_128_128_64_128_0_0 {φ : FTy} (M : Matrix (Fin 128) (Fin 128) ℝ) (h) :
    extractStridedSlice S64x128 ![0, 0] (up M : FVec Ideal S128x128 φ) h = up (sub 0 0 (by norm_num) M) :=
  sub_up_128_128_64_128 0 0 M (by norm_num) h

/-- The rectangle at row 64, column 0 of a vector of reals. -/
theorem cut_128_128_64_128_64_0 {φ : FTy} (M : Matrix (Fin 128) (Fin 128) ℝ) (h) :
    extractStridedSlice S64x128 ![64, 0] (up M : FVec Ideal S128x128 φ) h = up (sub 64 0 (by norm_num) M) :=
  sub_up_128_128_64_128 64 0 M (by norm_num) h

/-- The rectangle at row 0, column 0 of a vector of reals. -/
theorem cut_192_128_64_128_0_0 {φ : FTy} (M : Matrix (Fin 192) (Fin 128) ℝ) (h) :
    extractStridedSlice S64x128 ![0, 0] (up M : FVec Ideal S192x128 φ) h = up (sub 0 0 (by norm_num) M) :=
  sub_up_192_128_64_128 0 0 M (by norm_num) h

/-- The rectangle at row 64, column 0 of a vector of reals. -/
theorem cut_192_128_64_128_64_0 {φ : FTy} (M : Matrix (Fin 192) (Fin 128) ℝ) (h) :
    extractStridedSlice S64x128 ![64, 0] (up M : FVec Ideal S192x128 φ) h = up (sub 64 0 (by norm_num) M) :=
  sub_up_192_128_64_128 64 0 M (by norm_num) h

/-- The rectangle at row 128, column 0 of a vector of reals. -/
theorem cut_192_128_64_128_128_0 {φ : FTy} (M : Matrix (Fin 192) (Fin 128) ℝ) (h) :
    extractStridedSlice S64x128 ![128, 0] (up M : FVec Ideal S192x128 φ) h = up (sub 128 0 (by norm_num) M) :=
  sub_up_192_128_64_128 128 0 M (by norm_num) h

/-- The rectangle at row 0, column 0 of a vector of reals. -/
theorem cut_192_256_192_128_0_0 {φ : FTy} (M : Matrix (Fin 192) (Fin 256) ℝ) (h) :
    extractStridedSlice S192x128 ![0, 0] (up M : FVec Ideal S192x256 φ) h = up (sub 0 0 (by norm_num) M) :=
  sub_up_192_256_192_128 0 0 M (by norm_num) h

/-- The rectangle at row 0, column 128 of a vector of reals. -/
theorem cut_192_256_192_128_0_128 {φ : FTy} (M : Matrix (Fin 192) (Fin 256) ℝ) (h) :
    extractStridedSlice S192x128 ![0, 128] (up M : FVec Ideal S192x256 φ) h = up (sub 0 128 (by norm_num) M) :=
  sub_up_192_256_192_128 0 128 M (by norm_num) h

/-- The rectangle at row 0, column 0 of a vector of reals. -/
theorem cut_64_256_64_128_0_0 {φ : FTy} (M : Matrix (Fin 64) (Fin 256) ℝ) (h) :
    extractStridedSlice S64x128 ![0, 0] (up M : FVec Ideal S64x256 φ) h = up (sub 0 0 (by norm_num) M) :=
  sub_up_64_256_64_128 0 0 M (by norm_num) h

/-- The rectangle at row 0, column 128 of a vector of reals. -/
theorem cut_64_256_64_128_0_128 {φ : FTy} (M : Matrix (Fin 64) (Fin 256) ℝ) (h) :
    extractStridedSlice S64x128 ![0, 128] (up M : FVec Ideal S64x256 φ) h = up (sub 0 128 (by norm_num) M) :=
  sub_up_64_256_64_128 0 128 M (by norm_num) h

/-- The rectangle at row 0, column 0 of a vector of reals. -/
theorem cut_128_256_128_128_0_0 {φ : FTy} (M : Matrix (Fin 128) (Fin 256) ℝ) (h) :
    extractStridedSlice S128x128 ![0, 0] (up M : FVec Ideal S128x256 φ) h = up (sub 0 0 (by norm_num) M) :=
  sub_up_128_256_128_128 0 0 M (by norm_num) h

/-- The rectangle at row 0, column 128 of a vector of reals. -/
theorem cut_128_256_128_128_0_128 {φ : FTy} (M : Matrix (Fin 128) (Fin 256) ℝ) (h) :
    extractStridedSlice S128x128 ![0, 128] (up M : FVec Ideal S128x256 φ) h = up (sub 0 128 (by norm_num) M) :=
  sub_up_128_256_128_128 0 128 M (by norm_num) h

/-- The rectangle at row 0, column 0 of a vector of reals. -/
theorem cut_64_128_64_64_0_0 {φ : FTy} (M : Matrix (Fin 64) (Fin 128) ℝ) (h) :
    extractStridedSlice S64x64 ![0, 0] (up M : FVec Ideal S64x128 φ) h = up (sub 0 0 (by norm_num) M) :=
  sub_up_64_128_64_64 0 0 M (by norm_num) h

/-- The rectangle at row 0, column 64 of a vector of reals. -/
theorem cut_64_128_64_64_0_64 {φ : FTy} (M : Matrix (Fin 64) (Fin 128) ℝ) (h) :
    extractStridedSlice S64x64 ![0, 64] (up M : FVec Ideal S64x128 φ) h = up (sub 0 64 (by norm_num) M) :=
  sub_up_64_128_64_64 0 64 M (by norm_num) h

/-- The rectangle at row 0, column 0 of a vector of reals. -/
theorem cut_128_128_1_128_0_0 {φ : FTy} (M : Matrix (Fin 128) (Fin 128) ℝ) (h) :
    extractStridedSlice S1x128 ![0, 0] (up M : FVec Ideal S128x128 φ) h = up (sub 0 0 (by norm_num) M) :=
  sub_up_128_128_1_128 0 0 M (by norm_num) h

/-- The rectangle at row 1, column 0 of a vector of reals. -/
theorem cut_128_128_1_128_1_0 {φ : FTy} (M : Matrix (Fin 128) (Fin 128) ℝ) (h) :
    extractStridedSlice S1x128 ![1, 0] (up M : FVec Ideal S128x128 φ) h = up (sub 1 0 (by norm_num) M) :=
  sub_up_128_128_1_128 1 0 M (by norm_num) h

/-- The rectangle at row 2, column 0 of a vector of reals. -/
theorem cut_128_128_1_128_2_0 {φ : FTy} (M : Matrix (Fin 128) (Fin 128) ℝ) (h) :
    extractStridedSlice S1x128 ![2, 0] (up M : FVec Ideal S128x128 φ) h = up (sub 2 0 (by norm_num) M) :=
  sub_up_128_128_1_128 2 0 M (by norm_num) h

/-- The rectangle at row 3, column 0 of a vector of reals. -/
theorem cut_128_128_1_128_3_0 {φ : FTy} (M : Matrix (Fin 128) (Fin 128) ℝ) (h) :
    extractStridedSlice S1x128 ![3, 0] (up M : FVec Ideal S128x128 φ) h = up (sub 3 0 (by norm_num) M) :=
  sub_up_128_128_1_128 3 0 M (by norm_num) h

/-- Head 0's lanes from 0 of a vector of reals. -/
theorem slab_0_0 {φ : FTy} (V : Fin 2 → Matrix (Fin 64) (Fin 128) ℝ) (h1 h2 h3) :
    extractStridedSlice S64x64 ![0, 0] (shapeCast S64x128 (extractStridedSlice S1x64x128 ![0, 0, 0] (up3 V : FVec Ideal S2x64x128 φ) h1) h2) h3
      = up (sub 0 0 (by norm_num) (V 0)) :=
  slab_up V 0 0 (by norm_num) (by norm_num) h1 h2 h3

/-- Head 0's lanes from 64 of a vector of reals. -/
theorem slab_0_64 {φ : FTy} (V : Fin 2 → Matrix (Fin 64) (Fin 128) ℝ) (h1 h2 h3) :
    extractStridedSlice S64x64 ![0, 64] (shapeCast S64x128 (extractStridedSlice S1x64x128 ![0, 0, 0] (up3 V : FVec Ideal S2x64x128 φ) h1) h2) h3
      = up (sub 0 64 (by norm_num) (V 0)) :=
  slab_up V 0 64 (by norm_num) (by norm_num) h1 h2 h3

/-- Head 1's lanes from 0 of a vector of reals. -/
theorem slab_1_0 {φ : FTy} (V : Fin 2 → Matrix (Fin 64) (Fin 128) ℝ) (h1 h2 h3) :
    extractStridedSlice S64x64 ![0, 0] (shapeCast S64x128 (extractStridedSlice S1x64x128 ![1, 0, 0] (up3 V : FVec Ideal S2x64x128 φ) h1) h2) h3
      = up (sub 0 0 (by norm_num) (V 1)) :=
  slab_up V 1 0 (by norm_num) (by norm_num) h1 h2 h3

/-- Head 1's lanes from 64 of a vector of reals. -/
theorem slab_1_64 {φ : FTy} (V : Fin 2 → Matrix (Fin 64) (Fin 128) ℝ) (h1 h2 h3) :
    extractStridedSlice S64x64 ![0, 64] (shapeCast S64x128 (extractStridedSlice S1x64x128 ![1, 0, 0] (up3 V : FVec Ideal S2x64x128 φ) h1) h2) h3
      = up (sub 0 64 (by norm_num) (V 1)) :=
  slab_up V 1 64 (by norm_num) (by norm_num) h1 h2 h3

/-- Lanes rotated by half of them. -/
def rot {φ : FTy} (x : FVec Ideal S64x128 φ) : FVec Ideal S64x128 φ := dynamicRotate 1 64#32 none x rotates_S64x128_d1

/-- The rotation by 64 lanes, by its name. -/
theorem rot_eq {φ : FTy} (x : FVec Ideal S64x128 φ) (h) : dynamicRotate 1 64#32 none x h = rot x := rfl

/-- Rotating a vector of reals by half its lanes. -/
theorem rot_up {φ : FTy} (M : Matrix (Fin 64) (Fin 128) ℝ) : rot (up M : FVec Ideal S64x128 φ) = up (swap M) :=
  swap_up M _

/-- One row, repeated 64 times. -/
def rows64 {φ : FTy} (x : FVec Ideal S1x128 φ) : FVec Ideal S64x128 φ := broadcastTo S64x128 x broadcasts_S1x128_S64x128

/-- The repetition of one row, by its name. -/
theorem rows64_eq {φ : FTy} (x : FVec Ideal S1x128 φ) (h) : broadcastTo S64x128 x h = rows64 x := rfl

/-- One row of reals, repeated 64 times. -/
theorem rows64_up {φ : FTy} (M : Matrix (Fin 1) (Fin 128) ℝ) : rows64 (up M : FVec Ideal S1x128 φ) = up (row M) :=
  row_up_64 M _

/-- One row, repeated 128 times. -/
def rows128 {φ : FTy} (x : FVec Ideal S1x128 φ) : FVec Ideal S128x128 φ := broadcastTo S128x128 x broadcasts_S1x128_S128x128

/-- The repetition of one row, by its name. -/
theorem rows128_eq {φ : FTy} (x : FVec Ideal S1x128 φ) (h) : broadcastTo S128x128 x h = rows128 x := rfl

/-- One row of reals, repeated 128 times. -/
theorem rows128_up {φ : FTy} (M : Matrix (Fin 1) (Fin 128) ℝ) : rows128 (up M : FVec Ideal S1x128 φ) = up (row M) :=
  row_up_128 M _

end Cert.WKV
-- ==== Proof.Chunk.lean ====
module

public import proofs.«01_k».proof.Proof.Lift

/-! What the kernel computes for one chunk of 64 time steps of two heads, as matrices of reals: the rows of
`S` hold the two heads' states side by side, `B` and `K` the chunk's rows of the two removal and insertion
vectors, `XA` and `XB` the query and read vectors of the two heads, `V0` and `V1` the values. -/

@[expose] public section

set_option maxRecDepth 16384

noncomputable section

namespace Cert.WKV

/-- The lower 64 lanes. -/
def lo (_ : Fin 64) (j : Fin 128) : Bool := decide (j.1 < 64)

/-- Row at most the time of the lane in the lower lanes, below it in the upper ones. -/
def mA (i : Fin 64) (j : Fin 128) : Bool := decide (if j.1 < 64 then i.1 ≤ j.1 else i.1 + 64 < j.1)

/-- Row below the time of the lane in the lower lanes, at most it in the upper ones. -/
def mB (i : Fin 64) (j : Fin 128) : Bool := decide (if j.1 < 64 then i.1 < j.1 else i.1 + 64 ≤ j.1)

/-- The block-diagonal factor. -/
def cX (XA XB : Matrix (Fin 64) (Fin 128) ℝ) : Matrix (Fin 128) (Fin 256) ℝ :=
  vcat (p := 64) (q := 64) (by norm_num) (hcat (p := 128) (q := 128) (by norm_num) XA 0) (hcat (p := 128) (q := 128) (by norm_num) 0 XB)

/-- State, removal and insertion vectors, one above the other. -/
def cL (S B K : Matrix (Fin 64) (Fin 128) ℝ) : Matrix (Fin 192) (Fin 128) ℝ :=
  vcat (p := 64) (q := 128) (by norm_num) S (vcat (p := 64) (q := 64) (by norm_num) B K)

/-- All products of the chunk's vectors. -/
def cG (S B K XA XB : Matrix (Fin 64) (Fin 128) ℝ) : Matrix (Fin 192) (Fin 256) ℝ := cL S B K * cX XA XB

section
variable (S B K XA XB : Matrix (Fin 64) (Fin 128) ℝ) (V0 V1 : Matrix (Fin 64) (Fin 64) ℝ)

/-- The first head's products. -/
def cGA : Matrix (Fin 192) (Fin 128) ℝ := sub 0 0 (by norm_num) (cG S B K XA XB)
/-- The second head's products. -/
def cGB : Matrix (Fin 192) (Fin 128) ℝ := sub 0 128 (by norm_num) (cG S B K XA XB)
/-- The first head's removal products, kept where the order of time allows. -/
def cBA : Matrix (Fin 64) (Fin 128) ℝ := pick mA (sub 64 0 (by norm_num) (cGA S B K XA XB)) 0
/-- The second head's removal products, kept where the order of time allows. -/
def cBB : Matrix (Fin 64) (Fin 128) ℝ := pick mB (sub 64 0 (by norm_num) (cGB S B K XA XB)) 0
/-- The first head's values times its insertion products and insertion vectors. -/
def cVA : Matrix (Fin 64) (Fin 256) ℝ :=
  V0 * hcat (p := 128) (q := 128) (by norm_num) (pick mA (sub 128 0 (by norm_num) (cGA S B K XA XB)) 0) K
/-- The second head's insertion products and insertion vectors. -/
def cKB : Matrix (Fin 64) (Fin 256) ℝ :=
  hcat (p := 128) (q := 128) (by norm_num) (pick mB (sub 128 0 (by norm_num) (cGB S B K XA XB)) 0) K
/-- The second head's values times its insertion products and insertion vectors. -/
def cVB : Matrix (Fin 64) (Fin 256) ℝ := V1 * cKB S B K XA XB
/-- The first head's products with the state and the values. -/
def cYA : Matrix (Fin 64) (Fin 128) ℝ := sub 0 0 (by norm_num) (cGA S B K XA XB) + sub 0 0 (by norm_num) (cVA S B K XA XB V0)
/-- The second head's products with the state and the values. -/
def cYB : Matrix (Fin 64) (Fin 128) ℝ := sub 0 0 (by norm_num) (cGB S B K XA XB) + sub 0 0 (by norm_num) (cVB S B K XA XB V1)
/-- What the values insert into the state. -/
def cSV : Matrix (Fin 64) (Fin 128) ℝ :=
  pick lo (sub 0 128 (by norm_num) (cVA S B K XA XB V0)) (sub 0 128 (by norm_num) (cVB S B K XA XB V1))
/-- The output before the removal. -/
def cY0 : Matrix (Fin 64) (Fin 128) ℝ := pick lo (cYA S B K XA XB V0) (cYB S B K XA XB V1)
/-- The removal read-outs before the chunk's own removals. -/
def cW : Matrix (Fin 64) (Fin 128) ℝ := pick lo (cYB S B K XA XB V1) (cYA S B K XA XB V0)
/-- The nilpotent matrix of the removals within the chunk. -/
def cN : Matrix (Fin 128) (Fin 128) ℝ :=
  vcat (p := 64) (q := 64) (by norm_num) (pick lo (cBB S B K XA XB) 0) (pick lo 0 (cBA S B K XA XB))

/-- The product of `1 + N ^ (2 ^ i)` for `i` below 6, as the kernel forms it. -/
def dbl (N : Matrix (Fin 128) (Fin 128) ℝ) : Matrix (Fin 128) (Fin 128) ℝ :=
  let N2 := N * N
  let N4 := N2 * N2
  let N8 := N4 * N4
  let N16 := N8 * N8
  let N32 := N16 * N16
  let M1 := (1 + N) + (1 + N) * N2
  let M2 := M1 + M1 * N4
  let M3 := M2 + M2 * N8
  let M4 := M3 + M3 * N16
  M4 + M4 * N32

/-- The removals. -/
def cU : Matrix (Fin 64) (Fin 128) ℝ := cW S B K XA XB V0 V1 * dbl (cN S B K XA XB)
/-- What the removals multiply. -/
def cXX : Matrix (Fin 128) (Fin 256) ℝ :=
  vcat (p := 64) (q := 64) (by norm_num)
    (hcat (p := 128) (q := 128) (by norm_num) (pick lo 0 (cBB S B K XA XB)) (pick lo 0 B))
    (hcat (p := 128) (q := 128) (by norm_num) (pick lo (cBA S B K XA XB) 0) (pick lo B 0))
/-- The removals' contributions to output and state. -/
def cO : Matrix (Fin 64) (Fin 256) ℝ := cU S B K XA XB V0 V1 * cXX S B K XA XB
/-- The chunk's output. -/
def cY : Matrix (Fin 64) (Fin 128) ℝ := cY0 S B K XA XB V0 V1 + sub 0 0 (by norm_num) (cO S B K XA XB V0 V1)
/-- The state after the chunk. -/
def cS : Matrix (Fin 64) (Fin 128) ℝ := S + cSV S B K XA XB V0 V1 + sub 0 128 (by norm_num) (cO S B K XA XB V0 V1)
end

/-- The first chunk's vectors of the first head. -/
def xA0 (R A : Matrix (Fin 128) (Fin 128) ℝ) : Matrix (Fin 64) (Fin 128) ℝ :=
  pick lo (sub 0 0 (by norm_num) R) (swap (sub 0 0 (by norm_num) A))
/-- The first chunk's vectors of the second head. -/
def xB0 (R A : Matrix (Fin 128) (Fin 128) ℝ) : Matrix (Fin 64) (Fin 128) ℝ :=
  pick lo (sub 64 0 (by norm_num) A) (swap (sub 64 0 (by norm_num) R))
/-- The second chunk's vectors of the first head. -/
def xA1 (R A : Matrix (Fin 128) (Fin 128) ℝ) : Matrix (Fin 64) (Fin 128) ℝ :=
  pick lo (swap (sub 0 0 (by norm_num) R)) (sub 0 0 (by norm_num) A)
/-- The second chunk's vectors of the second head. -/
def xB1 (R A : Matrix (Fin 128) (Fin 128) ℝ) : Matrix (Fin 64) (Fin 128) ℝ :=
  pick lo (swap (sub 64 0 (by norm_num) A)) (sub 64 0 (by norm_num) R)

end Cert.WKV
-- ==== Proof.Inverse.lean ====
module

public import proofs.«01_k».proof.Proof.Chunk

/-! Within a chunk the removals solve `U = W + U N` with `N` strictly upper triangular in blocks of 64, so that
`U = W (1 + N) (1 + N²) (1 + N⁴) ⋯ (1 + N³²)`, the product the kernel forms. -/

@[expose] public section

set_option maxRecDepth 16384

noncomputable section

namespace Cert.WKV

/-- One step of the doubling: from `(1 - N) P = 1 - Q` to `(1 - N) (P + P Q) = 1 - Q²`. -/
theorem dbl_step {N P Q : Matrix (Fin 128) (Fin 128) ℝ} (h : (1 - N) * P = 1 - Q) :
    (1 - N) * (P + P * Q) = 1 - Q * Q := by
  rw [mul_add, ← mul_assoc, h]
  noncomm_ring

/-- The doubling gives the inverse of `1 - N` where `N ^ 64 = 0`. -/
theorem dbl_inv (N : Matrix (Fin 128) (Fin 128) ℝ) (h : N ^ 64 = 0) : (1 - N) * dbl N = 1 := by
  have h0 : (1 - N) * (1 + N) = 1 - N * N := by noncomm_ring
  have h5 := dbl_step (dbl_step (dbl_step (dbl_step (dbl_step h0))))
  have e : N * N * (N * N) * (N * N * (N * N)) * (N * N * (N * N) * (N * N * (N * N))) *
      (N * N * (N * N) * (N * N * (N * N)) * (N * N * (N * N) * (N * N * (N * N)))) *
      (N * N * (N * N) * (N * N * (N * N)) * (N * N * (N * N) * (N * N * (N * N))) *
      (N * N * (N * N) * (N * N * (N * N)) * (N * N * (N * N) * (N * N * (N * N))))) = N ^ 64 := by
    simp only [← pow_two, ← pow_mul]
    norm_num
  rw [e, h, sub_zero] at h5
  exact h5

/-- The powers of a matrix that is strictly upper triangular in blocks of 64. -/
theorem pow_support (N : Matrix (Fin 128) (Fin 128) ℝ) (h : ∀ m c, N m c ≠ 0 → m.1 / 64 = c.1 / 64 ∧ m.1 < c.1) (k : ℕ) :
    ∀ m c, (N ^ k) m c ≠ 0 → m.1 / 64 = c.1 / 64 ∧ m.1 + k ≤ c.1 := by
  induction k with
  | zero =>
    intro m c hne
    rw [pow_zero, Matrix.one_apply] at hne
    have : m = c := by by_contra hmc; simp [hmc] at hne
    subst this; simp
  | succ k ih =>
    intro m c hne
    rw [pow_succ, Matrix.mul_apply] at hne
    obtain ⟨x, -, hx⟩ := Finset.exists_ne_zero_of_sum_ne_zero hne
    have h1 := ih m x (left_ne_zero_of_mul hx)
    have h2 := h x c (right_ne_zero_of_mul hx)
    omega

/-- Its 64th power vanishes. -/
theorem pow_64 (N : Matrix (Fin 128) (Fin 128) ℝ) (h : ∀ m c, N m c ≠ 0 → m.1 / 64 = c.1 / 64 ∧ m.1 < c.1) : N ^ 64 = 0 := by
  ext m c
  by_contra hne
  have := pow_support N h 64 m c hne
  omega

/-- The solution of `U = W + U N`. -/
theorem solve (N : Matrix (Fin 128) (Fin 128) ℝ) (h : ∀ m c, N m c ≠ 0 → m.1 / 64 = c.1 / 64 ∧ m.1 < c.1)
    (U W : Matrix (Fin 64) (Fin 128) ℝ) (e : U = W + U * N) : U = W * dbl N := by
  have hW : W = U * (1 - N) := by
    rw [Matrix.mul_sub, Matrix.mul_one]
    exact eq_sub_of_add_eq e.symm
  rw [hW, Matrix.mul_assoc, dbl_inv N (pow_64 N h), Matrix.mul_one]

end Cert.WKV
-- ==== Proof.Steps.lean ====
module

public import proofs.«01_k».proof.Proof.Inverse

/-! A chunk of 64 steps of a recurrence `Z (t+1) = Z t + V t Kᵀ t + (Z t A t) Bᵀ t`, with what it reads, in closed form. -/

@[expose] public section

set_option maxRecDepth 16384

noncomputable section

namespace Cert.WKV

/-- A sum over the times before `t + 1`. -/
theorem sum_lt_succ (f : Fin 64 → ℝ) (t : Fin 64) :
    (∑ s : Fin 64, if s.1 < t.1 + 1 then f s else 0) = (∑ s : Fin 64, if s.1 < t.1 then f s else 0) + f t := by
  have : ∀ s : Fin 64, (if s.1 < t.1 + 1 then f s else 0) = (if s.1 < t.1 then f s else 0) + (if s = t then f s else 0) := by
    intro s
    rcases lt_trichotomy s.1 t.1 with h | h | h
    · have : s ≠ t := by rintro rfl; omega
      simp [h, this, Nat.lt_succ_of_lt h]
    · obtain rfl := Fin.ext h
      simp
    · have : s ≠ t := by rintro rfl; omega
      simp [this, show ¬ s.1 < t.1 by omega, show ¬ s.1 < t.1 + 1 by omega]
  rw [Finset.sum_congr rfl fun s _ => this s, Finset.sum_add_distrib]
  simp

/-- `Z` follows the recurrence. -/
def Rec (Z : ℕ → Matrix (Fin 64) (Fin 64) ℝ) (V K A B : Matrix (Fin 64) (Fin 64) ℝ) : Prop :=
  ∀ (t : Fin 64) (i j : Fin 64), Z (t.1 + 1) i j = Z t.1 i j + V i t * K t j + (∑ l, Z t.1 i l * A l t) * B t j

/-- What the recurrence removes at step `t`. -/
def rem (Z : ℕ → Matrix (Fin 64) (Fin 64) ℝ) (A : Matrix (Fin 64) (Fin 64) ℝ) : Matrix (Fin 64) (Fin 64) ℝ :=
  fun i t => ∑ l, Z t.1 i l * A l t

section
variable {Z : ℕ → Matrix (Fin 64) (Fin 64) ℝ} {V K A B : Matrix (Fin 64) (Fin 64) ℝ} (h : Rec Z V K A B)
include h

/-- The state as a sum over the steps before. -/
theorem rec_closed (t : ℕ) (ht : t ≤ 64) (i j : Fin 64) :
    Z t i j = Z 0 i j + ∑ s : Fin 64, if s.1 < t then V i s * K s j + rem Z A i s * B s j else 0 := by
  induction t with
  | zero => simp
  | succ t ih =>
    rw [h ⟨t, ht⟩ i j, ih (by omega), sum_lt_succ _ ⟨t, ht⟩]
    simp only [rem]
    ring

/-- A read of the state as sums over the steps before. -/
theorem rec_read (t : ℕ) (ht : t ≤ 64) (i : Fin 64) (x : Fin 64 → ℝ) :
    ∑ l, Z t i l * x l = ∑ l, Z 0 i l * x l + ∑ s : Fin 64, V i s * (if s.1 < t then ∑ l, K s l * x l else 0)
      + ∑ s : Fin 64, rem Z A i s * (if s.1 < t then ∑ l, B s l * x l else 0) := by
  simp_rw [rec_closed h t ht i]
  simp only [add_mul, Finset.sum_add_distrib, Finset.sum_mul]
  rw [add_assoc]
  refine congrArg (fun z => ∑ l, Z 0 i l * x l + z) ?_
  rw [Finset.sum_comm, ← Finset.sum_add_distrib]
  refine Finset.sum_congr rfl fun s _ => ?_
  by_cases hs : s.1 < t
  · simp only [hs, if_true]
    rw [Finset.mul_sum, Finset.mul_sum, ← Finset.sum_add_distrib]
    refine Finset.sum_congr rfl fun l _ => ?_
    ring
  · simp [hs]

end

end Cert.WKV
-- ==== Proof.Heads.lean ====
module

public import proofs.«01_k».proof.Proof.Steps

/-! One chunk of the kernel, head by head: the lanes of its matrices hold what the two heads' recurrences give. -/

@[expose] public section

set_option maxRecDepth 16384

noncomputable section

namespace Cert.WKV

/-- A lane of the lower half. -/
def eL (c : Fin 64) : Fin 128 := ⟨c.1, by omega⟩
/-- A lane of the upper half. -/
def eR (c : Fin 64) : Fin 128 := ⟨64 + c.1, by omega⟩

/-- A sum over the lanes, half by half. -/
theorem sum_128 (f : Fin 128 → ℝ) : ∑ x, f x = ∑ s, f (eL s) + ∑ s, f (eR s) := Fin.sum_univ_add (a := 64) (b := 64) f

/-- Every lane is of one half. -/
theorem lane_cases (x : Fin 128) : (∃ c, x = eL c) ∨ ∃ c, x = eR c := by
  by_cases h : x.1 < 64
  · exact Or.inl ⟨⟨x.1, h⟩, rfl⟩
  · exact Or.inr ⟨⟨x.1 - 64, by omega⟩, Fin.ext (by simp only [eR]; omega)⟩

section
variable (M N : Matrix (Fin 64) (Fin 128) ℝ) (i c : Fin 64)

/-- Choosing by half, read in the left half. -/
theorem pick_lo_L : pick lo M N i (eL c) = M i (eL c) := by simp [pick, lo, eL]
/-- Choosing by half, read in the right half. -/
theorem pick_lo_R : pick lo M N i (eR c) = N i (eR c) := by simp [pick, lo, eR]
/-- The first head's mask, read in the left half. -/
theorem pick_A_L : pick mA M 0 i (eL c) = if i.1 ≤ c.1 then M i (eL c) else 0 := by simp [pick, mA, eL]
/-- The first head's mask, read in the right half. -/
theorem pick_A_R : pick mA M 0 i (eR c) = if i.1 < c.1 then M i (eR c) else 0 := by
  simp [pick, mA, eR, Nat.add_comm i.1 64]
/-- The second head's mask, read in the left half. -/
theorem pick_B_L : pick mB M 0 i (eL c) = if i.1 < c.1 then M i (eL c) else 0 := by simp [pick, mB, eL]
/-- The second head's mask, read in the right half. -/
theorem pick_B_R : pick mB M 0 i (eR c) = if i.1 ≤ c.1 then M i (eR c) else 0 := by
  simp [pick, mB, eR, Nat.add_comm i.1 64]
end

section
variable {n : ℕ} (A B : Matrix (Fin 64) (Fin n) ℝ) (h : 128 = 64 + 64) (i : Fin 64) (c : Fin n)
/-- Two matrices stacked, read in the upper one. -/
theorem vcat_L : vcat h A B (eL i) c = A i c := by simp [vcat, eL]
/-- Two matrices stacked, read in the lower one. -/
theorem vcat_R : vcat h A B (eR i) c = B i c := by simp [vcat, eR]
end

section
variable (S B K XA XB : Matrix (Fin 64) (Fin 128) ℝ) (V0 V1 : Matrix (Fin 64) (Fin 64) ℝ)

/-- The state rows of the first head's products. -/
theorem gA_S (i : Fin 64) (c : Fin 128) : sub (p := 64) 0 0 (by norm_num) (cGA S B K XA XB) i c = ∑ l, S i (eL l) * XA l c := by
  simp only [sub, cGA, cG, Matrix.mul_apply, sum_128]
  simp [cL, cX, vcat, hcat, eL, eR]

/-- The first head's product with the removal keys, as a sum. -/
theorem gA_B (i : Fin 64) (c : Fin 128) : sub (p := 64) 64 0 (by norm_num) (cGA S B K XA XB) i c = ∑ l, B i (eL l) * XA l c := by
  simp only [sub, cGA, cG, Matrix.mul_apply, sum_128]
  simp [cL, cX, vcat, hcat, eL, eR]

/-- The first head's product with the keys, as a sum. -/
theorem gA_K (i : Fin 64) (c : Fin 128) : sub (p := 64) 128 0 (by norm_num) (cGA S B K XA XB) i c = ∑ l, K i (eL l) * XA l c := by
  simp only [sub, cGA, cG, Matrix.mul_apply, sum_128]
  have h1 : ¬ 128 + i.1 < 64 := by omega
  have h2 : ¬ 128 + i.1 - 64 < 64 := by omega
  have h3 : 128 + i.1 - 64 - 64 = i.1 := by omega
  simp [cL, cX, vcat, hcat, eL, eR, h1, h2, h3]

/-- The second head's product with the state, as a sum. -/
theorem gB_S (i : Fin 64) (c : Fin 128) : sub (p := 64) 0 0 (by norm_num) (cGB S B K XA XB) i c = ∑ l, S i (eR l) * XB l c := by
  simp only [sub, cGB, cG, Matrix.mul_apply, sum_128]
  simp [cL, cX, vcat, hcat, eL, eR]

/-- The second head's product with the removal keys, as a sum. -/
theorem gB_B (i : Fin 64) (c : Fin 128) : sub (p := 64) 64 0 (by norm_num) (cGB S B K XA XB) i c = ∑ l, B i (eR l) * XB l c := by
  simp only [sub, cGB, cG, Matrix.mul_apply, sum_128]
  simp [cL, cX, vcat, hcat, eL, eR]

/-- The second head's product with the keys, as a sum. -/
theorem gB_K (i : Fin 64) (c : Fin 128) : sub (p := 64) 128 0 (by norm_num) (cGB S B K XA XB) i c = ∑ l, K i (eR l) * XB l c := by
  simp only [sub, cGB, cG, Matrix.mul_apply, sum_128]
  have h1 : ¬ 128 + i.1 < 64 := by omega
  have h2 : ¬ 128 + i.1 - 64 < 64 := by omega
  have h3 : 128 + i.1 - 64 - 64 = i.1 := by omega
  simp [cL, cX, vcat, hcat, eL, eR, h1, h2, h3]

/-- What the first head's values add to the outputs. -/
theorem vA_y (i : Fin 64) (c : Fin 128) : sub (p := 64) (q := 128) 0 0 (by norm_num) (cVA S B K XA XB V0) i c
    = ∑ s, V0 i s * pick mA (sub 128 0 (by norm_num) (cGA S B K XA XB)) 0 s c := by
  simp [sub, cVA, Matrix.mul_apply, hcat]

/-- What the first head's values add to the state. -/
theorem vA_s (i : Fin 64) (c : Fin 128) : sub (p := 64) (q := 128) 0 128 (by norm_num) (cVA S B K XA XB V0) i c
    = ∑ s, V0 i s * K s c := by
  simp [sub, cVA, Matrix.mul_apply, hcat]

/-- What the second head's values add to the outputs. -/
theorem vB_y (i : Fin 64) (c : Fin 128) : sub (p := 64) (q := 128) 0 0 (by norm_num) (cVB S B K XA XB V1) i c
    = ∑ s, V1 i s * pick mB (sub 128 0 (by norm_num) (cGB S B K XA XB)) 0 s c := by
  simp [sub, cVB, cKB, Matrix.mul_apply, hcat]

/-- What the second head's values add to the state. -/
theorem vB_s (i : Fin 64) (c : Fin 128) : sub (p := 64) (q := 128) 0 128 (by norm_num) (cVB S B K XA XB V1) i c
    = ∑ s, V1 i s * K s c := by
  simp [sub, cVB, cKB, Matrix.mul_apply, hcat]

/-- What the solved removals add to the outputs. -/
theorem o_y (i : Fin 64) (c : Fin 128) : sub (p := 64) (q := 128) 0 0 (by norm_num) (cO S B K XA XB V0 V1) i c
    = ∑ s, cU S B K XA XB V0 V1 i (eL s) * pick lo 0 (cBB S B K XA XB) s c
      + ∑ s, cU S B K XA XB V0 V1 i (eR s) * pick lo (cBA S B K XA XB) 0 s c := by
  simp only [sub, cO, Matrix.mul_apply, sum_128]
  simp [cXX, vcat, hcat, eL, eR]

/-- What the solved removals add to the state. -/
theorem o_s (i : Fin 64) (c : Fin 128) : sub (p := 64) (q := 128) 0 128 (by norm_num) (cO S B K XA XB V0 V1) i c
    = ∑ s, cU S B K XA XB V0 V1 i (eL s) * pick lo 0 B s c
      + ∑ s, cU S B K XA XB V0 V1 i (eR s) * pick lo B 0 s c := by
  simp only [sub, cO, Matrix.mul_apply, sum_128]
  simp [cXX, vcat, hcat, eL, eR]

/-- The removals' matrix is strictly upper triangular in blocks of 64. -/
theorem n_support (m c : Fin 128) (h : cN S B K XA XB m c ≠ 0) : m.1 / 64 = c.1 / 64 ∧ m.1 < c.1 := by
  rcases lane_cases m with ⟨m, rfl⟩ | ⟨m, rfl⟩ <;> rcases lane_cases c with ⟨c, rfl⟩ | ⟨c, rfl⟩
  · rw [cN, vcat_L, pick_lo_L, cBB, pick_B_L] at h
    have : m.1 < c.1 := by by_contra hn; simp [hn] at h
    simp only [eL]; omega
  · rw [cN, vcat_L, pick_lo_R] at h; exact absurd rfl h
  · rw [cN, vcat_R, pick_lo_L] at h; exact absurd rfl h
  · rw [cN, vcat_R, pick_lo_R, cBA, pick_A_R] at h
    have : m.1 < c.1 := by by_contra hn; simp [hn] at h
    simp only [eR]; omega

variable {Za Zb : ℕ → Matrix (Fin 64) (Fin 64) ℝ}
  (ha : Rec Za V0 (fun s j => K s (eL j)) (fun l t => XA l (eR t)) (fun s j => B s (eL j)))
  (hb : Rec Zb V1 (fun s j => K s (eR j)) (fun l t => XB l (eL t)) (fun s j => B s (eR j)))
  (ea : ∀ i j, Za 0 i j = S i (eL j)) (eb : ∀ i j, Zb 0 i j = S i (eR j))
include ha hb ea eb

/-- The removals are those of the recurrences: the second head's in the lower lanes, the first one's in the upper. -/
theorem cU_eq : cU S B K XA XB V0 V1 = hcat (p := 64) (q := 64) (by norm_num) (rem Zb fun l t => XB l (eL t)) (rem Za fun l t => XA l (eR t)) := by
  have hL : ∀ (A B : Matrix (Fin 64) (Fin 64) ℝ) (h : 128 = 64 + 64) (i c), hcat h A B i (eL c) = A i c := by
    intros; simp [hcat, eL]
  have hR : ∀ (A B : Matrix (Fin 64) (Fin 64) ℝ) (h : 128 = 64 + 64) (i c), hcat h A B i (eR c) = B i c := by
    intros; simp [hcat, eR]
  refine (solve _ (n_support S B K XA XB) _ _ ?_).symm
  ext i c
  rcases lane_cases c with ⟨c, rfl⟩ | ⟨c, rfl⟩
  · rw [Matrix.add_apply, Matrix.mul_apply, sum_128, hL]
    simp only [hL, hR, cN, vcat_L, vcat_R, pick_lo_L, cW, cYB, Matrix.add_apply, gB_S, vB_y, cBB, pick_B_L, gB_B, gB_K]
    show ∑ l, Zb c.1 i l * XB l (eL c) = _
    rw [rec_read hb c.1 (by omega)]
    simp only [eb]
    simp
  · rw [Matrix.add_apply, Matrix.mul_apply, sum_128, hR]
    simp only [hL, hR, cN, vcat_L, vcat_R, pick_lo_R, cW, cYA, Matrix.add_apply, gA_S, vA_y, cBA, pick_A_R, gA_B, gA_K]
    show ∑ l, Za c.1 i l * XA l (eR c) = _
    rw [rec_read ha c.1 (by omega)]
    simp only [ea]
    simp

/-- The solved removals, left half: those of the second head. -/
theorem cU_L (i c : Fin 64) : cU S B K XA XB V0 V1 i (eL c) = rem Zb (fun l t => XB l (eL t)) i c := by
  rw [cU_eq S B K XA XB V0 V1 ha hb ea eb]; simp [hcat, eL]

/-- The solved removals, right half: those of the first head. -/
theorem cU_R (i c : Fin 64) : cU S B K XA XB V0 V1 i (eR c) = rem Za (fun l t => XA l (eR t)) i c := by
  rw [cU_eq S B K XA XB V0 V1 ha hb ea eb]; simp [hcat, eR]

/-- The first head's output: its state after each step, read. -/
theorem cY_L (i c : Fin 64) : cY S B K XA XB V0 V1 i (eL c) = ∑ l, Za (c.1 + 1) i l * XA l (eL c) := by
  rw [rec_read ha (c.1 + 1) (by omega)]
  simp only [cY, Matrix.add_apply, cY0, pick_lo_L, cYA, gA_S, vA_y, pick_A_L, gA_K, o_y, cBA, gA_B,
    cU_L S B K XA XB V0 V1 ha hb ea eb, cU_R S B K XA XB V0 V1 ha hb ea eb, ea, Nat.lt_succ_iff]
  simp

/-- The second head's. -/
theorem cY_R (i c : Fin 64) : cY S B K XA XB V0 V1 i (eR c) = ∑ l, Zb (c.1 + 1) i l * XB l (eR c) := by
  rw [rec_read hb (c.1 + 1) (by omega)]
  simp only [cY, Matrix.add_apply, cY0, pick_lo_R, cYB, gB_S, vB_y, pick_B_R, gB_K, o_y, cBB, gB_B,
    cU_L S B K XA XB V0 V1 ha hb ea eb, cU_R S B K XA XB V0 V1 ha hb ea eb, eb, Nat.lt_succ_iff]
  simp

/-- The first head's state after the chunk. -/
theorem cS_L (i j : Fin 64) : cS S B K XA XB V0 V1 i (eL j) = Za 64 i j := by
  rw [rec_closed ha 64 le_rfl]
  simp only [cS, Matrix.add_apply, cSV, pick_lo_L, vA_s, o_s, cU_L S B K XA XB V0 V1 ha hb ea eb, cU_R S B K XA XB V0 V1 ha hb ea eb, ea]
  simp [Finset.sum_add_distrib, add_assoc]

/-- The second head's. -/
theorem cS_R (i j : Fin 64) : cS S B K XA XB V0 V1 i (eR j) = Zb 64 i j := by
  rw [rec_closed hb 64 le_rfl]
  simp only [cS, Matrix.add_apply, cSV, pick_lo_R, vB_s, o_s, cU_L S B K XA XB V0 V1 ha hb ea eb, cU_R S B K XA XB V0 V1 ha hb ea eb, eb]
  simp [Finset.sum_add_distrib, add_assoc]

end

end Cert.WKV
-- ==== Proof.Prep.lean ====
module

public import proofs.«01_k».proof.Proof.Chunk

/-! The kernel's preparation of a block: validity, scales, decay sums and the scaled vectors, as matrices of reals.
Row `64 h + j` of a block belongs to channel `j` of its head `h`, and the columns are the time steps. -/

@[expose] public section

set_option maxRecDepth 16384

noncomputable section

namespace Cert.WKV

open Idealize.ShloMosaic Cert.KernelIdeal Cert.KernelIdeal.Gen

/-- One for the steps before the sequence's end, zero after. -/
def val (n : BitVec 32) : Matrix (Fin 1) (Fin 128) ℝ := fun _ t => if (BitVec.ofNat 32 t.1).slt n then 1 else 0

/-- The two heads' channels in one column. -/
def flat (X : Fin 2 → Matrix (Fin 64) (Fin 128) ℝ) : Matrix (Fin 128) (Fin 128) ℝ :=
  fun l t => X ⟨l.1 / 64, by omega⟩ ⟨l.1 % 64, by omega⟩ t

/-- A head's scale at each of its channels. -/
def rep (c : Matrix (Fin 2) (Fin 128) ℝ) : Matrix (Fin 128) (Fin 128) ℝ := fun l t => c ⟨l.1 / 64, by omega⟩ t

/-- Validity as the kernel converts it. -/
theorem pay3_up (n : BitVec 32) : k0_pay3 (F := Ideal) n = up (val n) := by
  funext y
  idx_vars y
  pointwise [k0_pay3]
  by_cases h : (BitVec.ofNat 32 y1.1).slt n
  · have e : IntOp.cmpi .slt (BitVec.ofNat 32 y1.1) n = 1#1 := by simp [IntOp.cmpi, h]
    rw [e, up_ix2, val, if_pos h]
    show (((BitVec.setWidth 32 1#1).toInt : ℝ) : EReal) = _
    rw [show (BitVec.setWidth 32 1#1).toInt = 1 from by decide]
    simp
  · have e : IntOp.cmpi .slt (BitVec.ofNat 32 y1.1) n = 0#1 := by simp [IntOp.cmpi, h]
    rw [e, up_ix2, val, if_neg h]
    show (((BitVec.setWidth 32 0#1).toInt : ℝ) : EReal) = _
    rw [show (BitVec.setWidth 32 0#1).toInt = 0 from by decide]
    simp

/-- Stacking two heads of reals. -/
theorem flat_up {φ : FTy} (X : Fin 2 → Matrix (Fin 64) (Fin 128) ℝ) (h1 h2) :
    shapeCast S128x128 (shapeCast S2x64x128 (up4 (fun _ => X) : FVec Ideal S1x2x64x128 φ) h1) h2 = up (flat X) := by
  funext y
  idx_vars y
  pointwise []
  rfl

/-- Dropping a block's leading axis. -/
theorem drop_up {φ : FTy} (X : Fin 2 → Matrix (Fin 64) (Fin 128) ℝ) (h1) :
    shapeCast S2x64x128 (up4 (fun _ => X) : FVec Ideal S1x2x64x128 φ) h1 = up3 X := by
  funext y
  idx_vars y
  pointwise []
  rfl

/-- Widening an array of reals changes nothing. -/
theorem extf3_up {φ ψ : FTy} (X : Fin 2 → Matrix (Fin 64) (Fin 128) ℝ) (h : φ.bits < ψ.bits) :
    extf ψ (up3 X : FVec Ideal S2x64x128 φ) h = up3 X := rfl

/-- One head's state out of its block. -/
theorem head_up {φ : FTy} (X : Matrix (Fin 64) (Fin 64) ℝ) (h1) :
    shapeCast S64x64 (up4 (fun _ _ => X) : FVec Ideal S1x1x64x64 φ) h1 = up X := by
  funext y
  idx_vars y
  pointwise []
  rfl

/-- Repeating each head's scale over its rows. -/
theorem rep_up {φ : FTy} (X : Matrix (Fin 2) (Fin 128) ℝ) (h1 h2 h3 h4 h5 h6 h7 h8) :
    concatenate S128x128 0 [⟨S64x128, broadcastTo S64x128 (shapeCast S1x128 (extractStridedSlice S1x128 ![0, 0] (shapeCast S2x128 (up3 (fun _ => X) : FVec Ideal S1x2x128 φ) h1) h2) h3) h4⟩,
      ⟨S64x128, broadcastTo S64x128 (shapeCast S1x128 (extractStridedSlice S1x128 ![1, 0] (shapeCast S2x128 (up3 (fun _ => X) : FVec Ideal S1x2x128 φ) h1) h5) h6) h7⟩] h8 = up (rep X) := by
  funext y
  idx_vars y
  pointwise []
  rw [up_ix2, rep]
  split
  · next h => rw [up3_ix3]; congr 2; exact Fin.ext (Nat.div_eq_of_lt h).symm
  · next h => rw [up3_ix3]; congr 2; exact Fin.ext (by show 1 = y0.1 / 64; omega)

/-- The zero array. -/
theorem zeros_128 : (broadcast S128x128 (Scalar.ofBits (F := Ideal) .f32 0x00000000#32) : FVec Ideal S128x128 .f32) = up 0 := by
  funext y
  idx_vars y
  pointwise []
  simp [up_ix2]

/-- The zero array. -/
theorem zeros_1 : (broadcast S1x128 (Scalar.ofBits (F := Ideal) .f32 0x00000000#32) : FVec Ideal S1x128 .f32) = up 0 := by
  funext y
  idx_vars y
  pointwise []
  simp [up_ix2]

/-- Value 4 of the block's program on reals, as a real matrix. -/
theorem pay4_up (n : BitVec 32) (c : Matrix (Fin 2) (Fin 128) ℝ) :
    k0_pay4 (F := Ideal) n (up3 (φ := .f32) fun _ => c) = up (had (rep c) (row (val n))) := by
  simp only [k0_pay4, ↓rep_up, pay3_up, ↓rows128_eq, rows128_up, mulf_up]

/-- Value 5 of the block's program on reals, as a real matrix. -/
theorem pay5_up (n : BitVec 32) (c d : Matrix (Fin 2) (Fin 128) ℝ) :
    k0_pay5 (F := Ideal) n (up3 (φ := .f32) fun _ => c) (up3 (φ := .f32) fun _ => d) = up (had (had (rep c) (rep d)) (row (val n))) := by
  simp only [k0_pay5, ↓rep_up, pay3_up, ↓rows128_eq, rows128_up, mulf_up]

section
variable (X : Fin 2 → Matrix (Fin 64) (Fin 128) ℝ) (N : Matrix (Fin 1) (Fin 128) ℝ)
  (L SC C D : Matrix (Fin 128) (Fin 128) ℝ) (T : Matrix (Fin 128) (Fin 256) ℝ) (S0 S1 : Matrix (Fin 64) (Fin 64) ℝ)

/-- Value 6 of the block's program on reals, as a real matrix. -/
theorem pay6_up : k0_pay6 (F := Ideal) (up4 (φ := .fp8e4m3) fun _ => X) = up (flat X) := by
  simp only [k0_pay6, ↓flat_up, extf_up]

/-- Value 7 of the block's program on reals, as a real matrix. -/
theorem pay7_up : k0_pay7 (F := Ideal) (up4 (φ := .fp8e4m3) fun _ => X) = up (flat X) := by
  simp only [k0_pay7, ↓flat_up, extf_up]

/-- Value 8 of the block's program on reals, as a real matrix. -/
theorem pay8_up : k0_pay8 (F := Ideal) (up4 (φ := .bf16) fun _ => X) = up (flat X) := by
  simp only [k0_pay8, ↓flat_up, extf_up]

/-- Value 9 of the block's program on reals, as a real matrix. -/
theorem pay9_up : k0_pay9 (F := Ideal) (up4 (φ := .bf16) fun _ => X) = up (flat X) := by
  simp only [k0_pay9, ↓flat_up, extf_up]

/-- Value 10 of the block's program on reals, as a real matrix. -/
theorem pay10_up : k0_pay10 (F := Ideal) (up4 (φ := .fp8e4m3) fun _ => X) = up3 X := by
  simp only [k0_pay10, ↓drop_up, extf3_up]

/-- Value 11 of the block's program on reals, as a real matrix. -/
theorem pay11_up : k0_pay11 (F := Ideal) (up N) (up4 (φ := .bf16) fun _ => X) = up (had (0 - ex (flat X)) (row N)) := by
  simp only [k0_pay11, ↓flat_up, extf_up, exp_up, ↓zeros_128, subf_up, ↓rows128_eq, rows128_up, mulf_up]

/-- Value 32 of the block's program on reals, as a real matrix. -/
theorem pay32_up : k0_pay32 (F := Ideal) (up L) = up L := by
  simp only [k0_pay32, k0_pay29, truncf_up, extf_up]

/-- Value 33 of the block's program on reals, as a real matrix. -/
theorem pay33_up : k0_pay33 (F := Ideal) (up L) = up 0 := by
  simp only [k0_pay33, k0_pay31, k0_pay30, k0_pay29, truncf_up, extf_up, subf_up, sub_self]

/-- Value 34 of the block's program on reals, as a real matrix. -/
theorem pay34_up : k0_pay34 (F := Ideal) (up L) = up 0 := by
  simp only [k0_pay34, k0_pay31, k0_pay30, k0_pay29, truncf_up, extf_up, subf_up, sub_self]

/-- Value 35 of the block's program on reals, as a real matrix. -/
theorem pay35_up : k0_pay35 (F := Ideal) (up T) (up L) (up 0) (up 0) = up (L * T) := by
  simp only [k0_pay35, ↓cat3_eq, dot3_left]

/-- The decays of the half chunks: row `q` holds the decays over the `q`-th half chunk. -/
def eN (L : Matrix (Fin 128) (Fin 128) ℝ) (T : Matrix (Fin 128) (Fin 256) ℝ) : Matrix (Fin 128) (Fin 128) ℝ :=
  ex (Matrix.transpose (sub 0 128 (by norm_num) (L * T)))

/-- The running sums of the decay logarithms. -/
def lC (L : Matrix (Fin 128) (Fin 128) ℝ) (T : Matrix (Fin 128) (Fin 256) ℝ) : Matrix (Fin 128) (Fin 128) ℝ :=
  sub 0 0 (by norm_num) (L * T)

/-- Value 36 of the block's program on reals, as a real matrix. -/
theorem pay36_up : k0_pay36 (F := Ideal) (up T) (up L) (up 0) (up 0) = up (eN L T) := by
  simp only [k0_pay36, pay35_up, cut_128_256_128_128_0_128, transpose_up, exp_up]; rfl

/-- Value 37 of the block's program on reals, as a real matrix. -/
theorem pay37_up : k0_pay37 (F := Ideal) (up T) (up L) (up 0) (up 0) = up (lC L T) := by
  simp only [k0_pay37, pay35_up, cut_128_256_128_128_0_0]; rfl

/-- Value 38 of the block's program on reals, as a real matrix. -/
theorem pay38_up : k0_pay38 (F := Ideal) (up T) (up L) (up 0) (up 0) = up (ex (0 - lC L T)) := by
  simp only [k0_pay38, pay37_up, ↓zeros_128, subf_up, exp_up]

/-- Value 39 of the block's program on reals, as a real matrix. -/
theorem pay39_up : k0_pay39 (F := Ideal) (up SC) (up C) (up T) (up L) (up 0) (up 0) = up (had C (had SC (ex (lC L T)))) := by
  simp only [k0_pay39, pay37_up, exp_up, mulf_up]

/-- Value 40 of the block's program on reals, as a real matrix. -/
theorem pay40_up : k0_pay40 (F := Ideal) (up C) (up D) (up T) (up L) (up 0) (up 0) = up (had C (ex (lC L T - D))) := by
  simp only [k0_pay40, pay37_up, subf_up, exp_up, mulf_up]

/-- Value 41 of the block's program on reals, as a real matrix. -/
theorem pay41_up : k0_pay41 (F := Ideal) (up N) (up C) (up D) (up T) (up L) (up 0) (up 0) =
    up (had (had (had C D) (ex (0 - lC L T))) (row (0 - N))).transpose := by
  simp only [k0_pay41, pay38_up, ↓zeros_1, subf_up, ↓rows128_eq, rows128_up, mulf_up]
  exact transpose_up _ _

/-- Value 42 of the block's program on reals, as a real matrix. -/
theorem pay42_up : k0_pay42 (F := Ideal) (up SC) (up C) (up T) (up L) (up 0) (up 0) =
    up (had C (had SC (ex (0 - lC L T)))).transpose := by
  simp only [k0_pay42, pay38_up, mulf_up]
  exact transpose_up _ _

/-- Value 44 of the block's program on reals, as a real matrix. -/
theorem pay44_up : k0_pay44 (F := Ideal) (up T) (up L) (up 0) (up 0) (up4 (φ := .f32) fun _ _ => S0) (up4 (φ := .f32) fun _ _ => S1) =
    up (had (hcat (p := 64) (q := 64) (by norm_num) S0 S1) (row (sub 0 0 (by norm_num) (eN L T)))) := by
  simp only [k0_pay44, pay36_up, ↓head_up, ↓cat2_eq, hcat_up_64, cut_128_128_1_128_0_0, ↓rows64_eq, rows64_up, mulf_up]

end

end Cert.WKV
-- ==== Proof.Pay0.lean ====
module

public import proofs.«01_k».proof.Proof.Chunk

/-! The steps of the kernel's first chunk, each on vectors of reals. -/

@[expose] public section

set_option maxRecDepth 16384

noncomputable section

namespace Cert.WKV

open Idealize.ShloMosaic Cert.KernelIdeal Cert.KernelIdeal.Gen

variable (Bn Kn R A P Q N : Matrix (Fin 128) (Fin 128) ℝ) (S B K XA XB C D E W Y T : Matrix (Fin 64) (Fin 128) ℝ)
  (V : Fin 2 → Matrix (Fin 64) (Fin 128) ℝ) (V0 V1 : Matrix (Fin 64) (Fin 64) ℝ) (VA VB X : Matrix (Fin 64) (Fin 256) ℝ) (XX : Matrix (Fin 128) (Fin 256) ℝ)

/-- Step 51 of the kernel's computation, on vectors of reals. -/
theorem pay51_up : k0_pay51 (F := Ideal) (up Bn) = up (sub 0 0 (by norm_num) Bn) := by
  simp only [k0_pay51, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 52 of the kernel's computation, on vectors of reals. -/
theorem pay52_up : k0_pay52 (F := Ideal) (up Kn) = up (sub 0 0 (by norm_num) Kn) := by
  simp only [k0_pay52, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 58 of the kernel's computation, on vectors of reals. -/
theorem pay58_up : k0_pay58 (F := Ideal) (up Bn) (up Kn) (up S) = up (cL S (sub 0 0 (by norm_num) Bn) (sub 0 0 (by norm_num) Kn)) := by
  simp only [k0_pay51, k0_pay52, k0_pay53, k0_pay55, k0_pay56, k0_pay57, k0_pay58, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 59 of the kernel's computation, on vectors of reals. -/
theorem pay59_up : k0_pay59 (F := Ideal) (up Bn) (up Kn) (up S) = up 0 := by
  simp only [k0_pay51, k0_pay52, k0_pay53, k0_pay55, k0_pay56, k0_pay57, k0_pay59, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 60 of the kernel's computation, on vectors of reals. -/
theorem pay60_up : k0_pay60 (F := Ideal) (up Bn) (up Kn) (up S) = up 0 := by
  simp only [k0_pay51, k0_pay52, k0_pay53, k0_pay55, k0_pay56, k0_pay57, k0_pay60, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 61 of the kernel's computation, on vectors of reals. -/
theorem pay61_up : k0_pay61 (F := Ideal) (up R) (up A) (bm lo) = up (cX (xA0 R A) (xB0 R A)) := by
  simp only [k0_pay54, k0_pay61, k0_pay62, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 62 of the kernel's computation, on vectors of reals. -/
theorem pay62_up : k0_pay62 (F := Ideal) (up R) (up A) (bm lo) = up 0 := by
  simp only [k0_pay54, k0_pay61, k0_pay62, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 63 of the kernel's computation, on vectors of reals. -/
theorem pay63_up : k0_pay63 (F := Ideal) (up R) (up A) (bm lo) = up 0 := by
  simp only [k0_pay54, k0_pay61, k0_pay62, k0_pay63, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 67 of the kernel's computation, on vectors of reals. -/
theorem pay67_up : k0_pay67 (F := Ideal) (up (cL S B K)) (up 0) (up 0) (up (cX XA XB)) (up 0) (up 0) = up (sub 0 0 (by norm_num) (cGA S B K XA XB)) := by
  simp only [k0_pay64, k0_pay65, k0_pay66, k0_pay67, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 68 of the kernel's computation, on vectors of reals. -/
theorem pay68_up : k0_pay68 (F := Ideal) (up (cL S B K)) (up 0) (up 0) (up (cX XA XB)) (up 0) (up 0) = up (sub 0 0 (by norm_num) (cGB S B K XA XB)) := by
  simp only [k0_pay64, k0_pay65, k0_pay66, k0_pay68, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 69 of the kernel's computation, on vectors of reals. -/
theorem pay69_up : k0_pay69 (F := Ideal) (bm mA) (up (cL S B K)) (up 0) (up 0) (up (cX XA XB)) (up 0) (up 0) = up (cBA S B K XA XB) := by
  simp only [k0_pay64, k0_pay65, k0_pay66, k0_pay69, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 70 of the kernel's computation, on vectors of reals. -/
theorem pay70_up : k0_pay70 (F := Ideal) (bm mB) (up (cL S B K)) (up 0) (up 0) (up (cX XA XB)) (up 0) (up 0) = up (cBB S B K XA XB) := by
  simp only [k0_pay64, k0_pay65, k0_pay66, k0_pay70, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 71 of the kernel's computation, on vectors of reals. -/
theorem pay71_up : k0_pay71 (F := Ideal) (up3 V) (bm mA) (up K) (up (cL S B K)) (up 0) (up 0) (up (cX XA XB)) (up 0) (up 0) = up (cVA S B K XA XB (sub 0 0 (by norm_num) (V 0))) := by
  simp only [k0_pay64, k0_pay65, k0_pay66, k0_pay71, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 73 of the kernel's computation, on vectors of reals. -/
theorem pay73_up : k0_pay73 (F := Ideal) (up3 V) = cat3 (t := S64x192) 1 concatenates_S64x64_S64x64_S64x64_S64x192_d1 (up (sub 0 0 (by norm_num) (V 1)) : FVec Ideal S64x64 .bf16) (up (sub 0 0 (by norm_num) (V 1)) : FVec Ideal S64x64 .bf16) (up (sub 0 0 (by norm_num) (V 1)) : FVec Ideal S64x64 .bf16) := by
  simp only [k0_pay73, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 74 of the kernel's computation, on vectors of reals. -/
theorem pay74_up : k0_pay74 (F := Ideal) (bm mB) (up K) (up (cL S B K)) (up 0) (up 0) (up (cX XA XB)) (up 0) (up 0) = up (cKB S B K XA XB) := by
  simp only [k0_pay64, k0_pay65, k0_pay66, k0_pay72, k0_pay74, k0_pay75, k0_pay76, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 76 of the kernel's computation, on vectors of reals. -/
theorem pay76_up : k0_pay76 (F := Ideal) (bm mB) (up K) (up (cL S B K)) (up 0) (up 0) (up (cX XA XB)) (up 0) (up 0) = up 0 := by
  simp only [k0_pay64, k0_pay65, k0_pay66, k0_pay72, k0_pay74, k0_pay75, k0_pay76, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 77 of the kernel's computation, on vectors of reals. -/
theorem pay77_up : k0_pay77 (F := Ideal) (bm mB) (up K) (up (cL S B K)) (up 0) (up 0) (up (cX XA XB)) (up 0) (up 0) = up 0 := by
  simp only [k0_pay64, k0_pay65, k0_pay66, k0_pay72, k0_pay74, k0_pay75, k0_pay76, k0_pay77, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 81 of the kernel's computation, on vectors of reals. -/
theorem pay81_up : k0_pay81 (F := Ideal) (bm lo) (up (cVA S B K XA XB V0)) (cat3 (t := S64x192) 1 concatenates_S64x64_S64x64_S64x64_S64x192_d1 (up V1 : FVec Ideal S64x64 .bf16) (up V1 : FVec Ideal S64x64 .bf16) (up V1 : FVec Ideal S64x64 .bf16)) (up (cKB S B K XA XB)) (up 0) (up 0) = up (cSV S B K XA XB V0 V1) := by
  simp only [k0_pay78, k0_pay79, k0_pay80, k0_pay81, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 82 of the kernel's computation, on vectors of reals. -/
theorem pay82_up : k0_pay82 (F := Ideal) (bm lo) (up (sub 0 0 (by norm_num) (cGA S B K XA XB))) (up (sub 0 0 (by norm_num) (cGB S B K XA XB))) (up (cVA S B K XA XB V0)) (cat3 (t := S64x192) 1 concatenates_S64x64_S64x64_S64x64_S64x192_d1 (up V1 : FVec Ideal S64x64 .bf16) (up V1 : FVec Ideal S64x64 .bf16) (up V1 : FVec Ideal S64x64 .bf16)) (up (cKB S B K XA XB)) (up 0) (up 0) = up (cY0 S B K XA XB V0 V1) := by
  simp only [k0_pay78, k0_pay79, k0_pay80, k0_pay82, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 83 of the kernel's computation, on vectors of reals. -/
theorem pay83_up : k0_pay83 (F := Ideal) (bm lo) (up (sub 0 0 (by norm_num) (cGA S B K XA XB))) (up (sub 0 0 (by norm_num) (cGB S B K XA XB))) (up (cVA S B K XA XB V0)) (cat3 (t := S64x192) 1 concatenates_S64x64_S64x64_S64x64_S64x192_d1 (up V1 : FVec Ideal S64x64 .bf16) (up V1 : FVec Ideal S64x64 .bf16) (up V1 : FVec Ideal S64x64 .bf16)) (up (cKB S B K XA XB)) (up 0) (up 0) = up (cW S B K XA XB V0 V1) := by
  simp only [k0_pay78, k0_pay79, k0_pay80, k0_pay83, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 84 of the kernel's computation, on vectors of reals. -/
theorem pay84_up : k0_pay84 (F := Ideal)  = up 0 := by
  simp only [k0_pay84, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 86 of the kernel's computation, on vectors of reals. -/
theorem pay86_up : k0_pay86 (F := Ideal) (bm lo) (up (cBA S B K XA XB)) (up (cBB S B K XA XB)) = up (1 + (cN S B K XA XB)) := by
  simp only [k0_pay84, k0_pay85, k0_pay86, k0_pay88, k0_pay89, k0_pay90, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 87 of the kernel's computation, on vectors of reals. -/
theorem pay87_up : k0_pay87 (F := Ideal) (bm lo) (up (cBA S B K XA XB)) (up (cBB S B K XA XB)) = up ((cN S B K XA XB) * (cN S B K XA XB)) := by
  simp only [k0_pay84, k0_pay85, k0_pay86, k0_pay87, k0_pay88, k0_pay89, k0_pay90, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 88 of the kernel's computation, on vectors of reals. -/
theorem pay88_up : k0_pay88 (F := Ideal) (bm lo) (up (cBA S B K XA XB)) (up (cBB S B K XA XB)) = up (1 + (cN S B K XA XB)) := by
  simp only [k0_pay84, k0_pay85, k0_pay86, k0_pay88, k0_pay89, k0_pay90, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 90 of the kernel's computation, on vectors of reals. -/
theorem pay90_up : k0_pay90 (F := Ideal) (bm lo) (up (cBA S B K XA XB)) (up (cBB S B K XA XB)) = up 0 := by
  simp only [k0_pay84, k0_pay85, k0_pay86, k0_pay88, k0_pay89, k0_pay90, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 91 of the kernel's computation, on vectors of reals. -/
theorem pay91_up : k0_pay91 (F := Ideal) (bm lo) (up (cBA S B K XA XB)) (up (cBB S B K XA XB)) = up 0 := by
  simp only [k0_pay84, k0_pay85, k0_pay86, k0_pay88, k0_pay89, k0_pay90, k0_pay91, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 92 of the kernel's computation, on vectors of reals. -/
theorem pay92_up : k0_pay92 (F := Ideal) (up P) (up Q) (up P) (up 0) (up 0) = up (P + P * Q) := by
  simp only [k0_pay92, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 93 of the kernel's computation, on vectors of reals. -/
theorem pay93_up : k0_pay93 (F := Ideal) (up Q) = up (Q * Q) := by
  simp only [k0_pay93, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 97 of the kernel's computation, on vectors of reals. -/
theorem pay97_up : k0_pay97 (F := Ideal) (up P) (up Q) (up P) (up 0) (up 0) = up (P + P * Q) := by
  simp only [k0_pay92, k0_pay94, k0_pay95, k0_pay96, k0_pay97, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 98 of the kernel's computation, on vectors of reals. -/
theorem pay98_up : k0_pay98 (F := Ideal) (up P) (up Q) (up P) (up 0) (up 0) = up 0 := by
  simp only [k0_pay92, k0_pay94, k0_pay95, k0_pay96, k0_pay98, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 99 of the kernel's computation, on vectors of reals. -/
theorem pay99_up : k0_pay99 (F := Ideal) (up P) (up Q) (up P) (up 0) (up 0) = up 0 := by
  simp only [k0_pay92, k0_pay94, k0_pay95, k0_pay96, k0_pay99, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 100 of the kernel's computation, on vectors of reals. -/
theorem pay100_up : k0_pay100 (F := Ideal) (up Q) = up (Q * Q) := by
  simp only [k0_pay93, k0_pay100, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 101 of the kernel's computation, on vectors of reals. -/
theorem pay101_up : k0_pay101 (F := Ideal) (up Q) = up 0 := by
  simp only [k0_pay93, k0_pay100, k0_pay101, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 102 of the kernel's computation, on vectors of reals. -/
theorem pay102_up : k0_pay102 (F := Ideal) (up P) (up P) (up 0) (up 0) (up Q) (up 0) = up (P + P * Q) := by
  simp only [k0_pay102, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 103 of the kernel's computation, on vectors of reals. -/
theorem pay103_up : k0_pay103 (F := Ideal) (up Q) = up (Q * Q) := by
  simp only [k0_pay103, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 107 of the kernel's computation, on vectors of reals. -/
theorem pay107_up : k0_pay107 (F := Ideal) (up P) (up P) (up 0) (up 0) (up Q) (up 0) = up (P + P * Q) := by
  simp only [k0_pay102, k0_pay104, k0_pay105, k0_pay106, k0_pay107, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 108 of the kernel's computation, on vectors of reals. -/
theorem pay108_up : k0_pay108 (F := Ideal) (up P) (up P) (up 0) (up 0) (up Q) (up 0) = up 0 := by
  simp only [k0_pay102, k0_pay104, k0_pay105, k0_pay106, k0_pay108, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 109 of the kernel's computation, on vectors of reals. -/
theorem pay109_up : k0_pay109 (F := Ideal) (up P) (up P) (up 0) (up 0) (up Q) (up 0) = up 0 := by
  simp only [k0_pay102, k0_pay104, k0_pay105, k0_pay106, k0_pay109, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 113 of the kernel's computation, on vectors of reals. -/
theorem pay113_up : k0_pay113 (F := Ideal) (up Q) = up (Q * Q) := by
  simp only [k0_pay103, k0_pay110, k0_pay111, k0_pay112, k0_pay113, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 114 of the kernel's computation, on vectors of reals. -/
theorem pay114_up : k0_pay114 (F := Ideal) (up Q) = up 0 := by
  simp only [k0_pay103, k0_pay110, k0_pay111, k0_pay112, k0_pay114, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 115 of the kernel's computation, on vectors of reals. -/
theorem pay115_up : k0_pay115 (F := Ideal) (up Q) = up 0 := by
  simp only [k0_pay103, k0_pay110, k0_pay111, k0_pay112, k0_pay115, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 116 of the kernel's computation, on vectors of reals. -/
theorem pay116_up : k0_pay116 (F := Ideal) (up Q) = up (Q * Q) := by
  simp only [k0_pay116, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 117 of the kernel's computation, on vectors of reals. -/
theorem pay117_up : k0_pay117 (F := Ideal) (up P) (up Q) (up P) (up 0) (up 0) (up Q) (up 0) (up 0) = up ((P + P * Q) + (P + P * Q) * (Q * Q)) := by
  simp only [k0_pay116, k0_pay117, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 118 of the kernel's computation, on vectors of reals. -/
theorem pay118_up : k0_pay118 (F := Ideal) (up Q) (up P) = up (P + P * (Q * Q)) := by
  simp only [k0_pay118, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 121 of the kernel's computation, on vectors of reals. -/
theorem pay121_up : k0_pay121 (F := Ideal) (up W) = up 0 := by
  simp only [k0_pay119, k0_pay120, k0_pay121, k0_pay122, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 122 of the kernel's computation, on vectors of reals. -/
theorem pay122_up : k0_pay122 (F := Ideal) (up W) = up 0 := by
  simp only [k0_pay119, k0_pay120, k0_pay121, k0_pay122, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 123 of the kernel's computation, on vectors of reals. -/
theorem pay123_up : k0_pay123 (F := Ideal) (up W) = up W := by
  simp only [k0_pay119, k0_pay120, k0_pay121, k0_pay122, k0_pay123, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 125 of the kernel's computation, on vectors of reals. -/
theorem pay125_up : k0_pay125 (F := Ideal) (bm lo) (up B) (up (cBA S B K XA XB)) (up (cBB S B K XA XB)) (up (cY0 S B K XA XB V0 V1)) (up 0) (up (dbl (cN S B K XA XB))) (up 0) (up 0) (up (cW S B K XA XB V0 V1)) = up (cY S B K XA XB V0 V1) := by
  simp only [k0_pay124, k0_pay125, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 126 of the kernel's computation, on vectors of reals. -/
theorem pay126_up : k0_pay126 (F := Ideal) (up P) (bm lo) (up S) (up B) (up (cBA S B K XA XB)) (up (cBB S B K XA XB)) (up (cSV S B K XA XB V0 V1)) (up 0) (up (dbl (cN S B K XA XB))) (up 0) (up 0) (up (cW S B K XA XB V0 V1)) = up (had (cS S B K XA XB V0 V1) (row (had (sub 1 0 (by norm_num) P) (sub 2 0 (by norm_num) P)))) := by
  simp only [k0_pay124, k0_pay126, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

end Cert.WKV
-- ==== Proof.Pay1.lean ====
module

public import proofs.«01_k».proof.Proof.Chunk

/-! The steps of the kernel's second chunk, each on vectors of reals. -/

@[expose] public section

set_option maxRecDepth 16384

noncomputable section

namespace Cert.WKV

open Idealize.ShloMosaic Cert.KernelIdeal Cert.KernelIdeal.Gen

variable (Bn Kn R A P Q N : Matrix (Fin 128) (Fin 128) ℝ) (S B K XA XB C D E W Y T : Matrix (Fin 64) (Fin 128) ℝ)
  (V : Fin 2 → Matrix (Fin 64) (Fin 128) ℝ) (V0 V1 : Matrix (Fin 64) (Fin 64) ℝ) (VA VB X : Matrix (Fin 64) (Fin 256) ℝ) (XX : Matrix (Fin 128) (Fin 256) ℝ)

/-- Step 127 of the kernel's computation, on vectors of reals. -/
theorem pay127_up : k0_pay127 (F := Ideal) (up Bn) = up (sub 64 0 (by norm_num) Bn) := by
  simp only [k0_pay127, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 128 of the kernel's computation, on vectors of reals. -/
theorem pay128_up : k0_pay128 (F := Ideal) (up Kn) = up (sub 64 0 (by norm_num) Kn) := by
  simp only [k0_pay128, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 131 of the kernel's computation, on vectors of reals. -/
theorem pay131_up : k0_pay131 (F := Ideal) (up R) (up A) (up Bn) (up Kn) (bm lo) (up S) = up (cGB S (sub 64 0 (by norm_num) Bn) (sub 64 0 (by norm_num) Kn) (xA1 R A) (xB1 R A)) := by
  simp only [k0_pay127, k0_pay128, k0_pay129, k0_pay130, k0_pay131, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 132 of the kernel's computation, on vectors of reals. -/
theorem pay132_up : k0_pay132 (F := Ideal) (up R) (up A) (up Bn) (up Kn) (bm lo) (up S) = up (sub 0 0 (by norm_num) (cGA S (sub 64 0 (by norm_num) Bn) (sub 64 0 (by norm_num) Kn) (xA1 R A) (xB1 R A))) := by
  simp only [k0_pay127, k0_pay128, k0_pay129, k0_pay130, k0_pay131, k0_pay132, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 133 of the kernel's computation, on vectors of reals. -/
theorem pay133_up : k0_pay133 (F := Ideal) (up R) (up A) (up Bn) (up Kn) (bm lo) (up S) = up (sub 0 0 (by norm_num) (cGB S (sub 64 0 (by norm_num) Bn) (sub 64 0 (by norm_num) Kn) (xA1 R A) (xB1 R A))) := by
  simp only [k0_pay127, k0_pay128, k0_pay129, k0_pay130, k0_pay131, k0_pay133, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 134 of the kernel's computation, on vectors of reals. -/
theorem pay134_up : k0_pay134 (F := Ideal) (up R) (up A) (up Bn) (up Kn) (bm lo) (bm mA) (up S) = up (cBA S (sub 64 0 (by norm_num) Bn) (sub 64 0 (by norm_num) Kn) (xA1 R A) (xB1 R A)) := by
  simp only [k0_pay127, k0_pay128, k0_pay129, k0_pay130, k0_pay131, k0_pay134, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 135 of the kernel's computation, on vectors of reals. -/
theorem pay135_up : k0_pay135 (F := Ideal) (up R) (up A) (up Bn) (up Kn) (bm lo) (bm mB) (up S) = up (cBB S (sub 64 0 (by norm_num) Bn) (sub 64 0 (by norm_num) Kn) (xA1 R A) (xB1 R A)) := by
  simp only [k0_pay127, k0_pay128, k0_pay129, k0_pay130, k0_pay131, k0_pay135, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 136 of the kernel's computation, on vectors of reals. -/
theorem pay136_up : k0_pay136 (F := Ideal) (up R) (up A) (up Bn) (up Kn) (bm lo) (bm mA) (up S) = up (pick mA (sub 128 0 (by norm_num) (cGA S (sub 64 0 (by norm_num) Bn) (sub 64 0 (by norm_num) Kn) (xA1 R A) (xB1 R A))) 0) := by
  simp only [k0_pay127, k0_pay128, k0_pay129, k0_pay130, k0_pay131, k0_pay136, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 141 of the kernel's computation, on vectors of reals. -/
theorem pay141_up : k0_pay141 (F := Ideal) (up3 V) (bm lo) (bm mB) (up K) (up (cGB S B K XA XB)) (up (pick mA (sub 128 0 (by norm_num) (cGA S B K XA XB)) 0)) = up (cSV S B K XA XB (sub 0 64 (by norm_num) (V 0)) (sub 0 64 (by norm_num) (V 1))) := by
  simp only [k0_pay137, k0_pay138, k0_pay139, k0_pay140, k0_pay141, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 142 of the kernel's computation, on vectors of reals. -/
theorem pay142_up : k0_pay142 (F := Ideal) (up3 V) (bm lo) (bm mB) (up K) (up (cGB S B K XA XB)) (up (sub 0 0 (by norm_num) (cGA S B K XA XB))) (up (sub 0 0 (by norm_num) (cGB S B K XA XB))) (up (pick mA (sub 128 0 (by norm_num) (cGA S B K XA XB)) 0)) = up (cY0 S B K XA XB (sub 0 64 (by norm_num) (V 0)) (sub 0 64 (by norm_num) (V 1))) := by
  simp only [k0_pay137, k0_pay138, k0_pay139, k0_pay140, k0_pay142, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 143 of the kernel's computation, on vectors of reals. -/
theorem pay143_up : k0_pay143 (F := Ideal) (up3 V) (bm lo) (bm mB) (up K) (up (cGB S B K XA XB)) (up (sub 0 0 (by norm_num) (cGA S B K XA XB))) (up (sub 0 0 (by norm_num) (cGB S B K XA XB))) (up (pick mA (sub 128 0 (by norm_num) (cGA S B K XA XB)) 0)) = up (cW S B K XA XB (sub 0 64 (by norm_num) (V 0)) (sub 0 64 (by norm_num) (V 1))) := by
  simp only [k0_pay137, k0_pay138, k0_pay139, k0_pay140, k0_pay143, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 144 of the kernel's computation, on vectors of reals. -/
theorem pay144_up : k0_pay144 (F := Ideal)  = up 0 := by
  simp only [k0_pay144, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 145 of the kernel's computation, on vectors of reals. -/
theorem pay145_up : k0_pay145 (F := Ideal) (bm lo) (up (cBA S B K XA XB)) (up (cBB S B K XA XB)) = up (cN S B K XA XB) := by
  simp only [k0_pay144, k0_pay145, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 147 of the kernel's computation, on vectors of reals. -/
theorem pay147_up : k0_pay147 (F := Ideal) (up N) = up (N * N) := by
  simp only [k0_pay147, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 148 of the kernel's computation, on vectors of reals. -/
theorem pay148_up : k0_pay148 (F := Ideal) (up N) k0_pay146 = up ((1 + N) + (1 + N) * (N * N)) := by
  unfold k0_pay148 k0_pay146
  simp only [k0_pay147, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 149 of the kernel's computation, on vectors of reals. -/
theorem pay149_up : k0_pay149 (F := Ideal) (up N) = up (N * N) := by
  simp only [k0_pay147, k0_pay149, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 150 of the kernel's computation, on vectors of reals. -/
theorem pay150_up : k0_pay150 (F := Ideal) (up N) = up 0 := by
  simp only [k0_pay147, k0_pay149, k0_pay150, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 151 of the kernel's computation, on vectors of reals. -/
theorem pay151_up : k0_pay151 (F := Ideal) (up Q) (up Q) (up 0) = up (Q * Q) := by
  simp only [k0_pay151, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 152 of the kernel's computation, on vectors of reals. -/
theorem pay152_up : k0_pay152 (F := Ideal) (up Q) (up P) (up Q) (up 0) = up (P + P * (Q * Q)) := by
  simp only [k0_pay151, k0_pay152, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 156 of the kernel's computation, on vectors of reals. -/
theorem pay156_up : k0_pay156 (F := Ideal) (up Q) (up Q) (up 0) = up (Q * Q) := by
  simp only [k0_pay151, k0_pay153, k0_pay154, k0_pay155, k0_pay156, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 157 of the kernel's computation, on vectors of reals. -/
theorem pay157_up : k0_pay157 (F := Ideal) (up Q) (up Q) (up 0) = up 0 := by
  simp only [k0_pay151, k0_pay153, k0_pay154, k0_pay155, k0_pay157, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 158 of the kernel's computation, on vectors of reals. -/
theorem pay158_up : k0_pay158 (F := Ideal) (up Q) (up Q) (up 0) = up 0 := by
  simp only [k0_pay151, k0_pay153, k0_pay154, k0_pay155, k0_pay158, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 160 of the kernel's computation, on vectors of reals. -/
theorem pay160_up : k0_pay160 (F := Ideal) (up Q) (up P) (up Q) (up 0) (up 0) = up (P + P * (Q * Q)) := by
  simp only [k0_pay159, k0_pay160, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 164 of the kernel's computation, on vectors of reals. -/
theorem pay164_up : k0_pay164 (F := Ideal) (up Q) (up Q) (up 0) (up 0) = up (Q * Q) := by
  simp only [k0_pay159, k0_pay161, k0_pay162, k0_pay163, k0_pay164, k0_pay167, k0_pay168, k0_pay169, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 165 of the kernel's computation, on vectors of reals. -/
theorem pay165_up : k0_pay165 (F := Ideal) (up Q) (up Q) (up 0) (up 0) = up 0 := by
  simp only [k0_pay159, k0_pay161, k0_pay162, k0_pay163, k0_pay165, k0_pay167, k0_pay168, k0_pay169, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 166 of the kernel's computation, on vectors of reals. -/
theorem pay166_up : k0_pay166 (F := Ideal) (up Q) (up Q) (up 0) (up 0) = up 0 := by
  simp only [k0_pay159, k0_pay161, k0_pay162, k0_pay163, k0_pay166, k0_pay167, k0_pay168, k0_pay169, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 167 of the kernel's computation, on vectors of reals. -/
theorem pay167_up : k0_pay167 (F := Ideal) (up Q) (up Q) (up 0) (up 0) = up (Q * Q) := by
  simp only [k0_pay159, k0_pay161, k0_pay162, k0_pay163, k0_pay167, k0_pay168, k0_pay169, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 169 of the kernel's computation, on vectors of reals. -/
theorem pay169_up : k0_pay169 (F := Ideal) (up Q) (up Q) (up 0) (up 0) = up 0 := by
  simp only [k0_pay159, k0_pay161, k0_pay162, k0_pay163, k0_pay167, k0_pay168, k0_pay169, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 170 of the kernel's computation, on vectors of reals. -/
theorem pay170_up : k0_pay170 (F := Ideal) (up Q) (up Q) (up 0) (up 0) = up 0 := by
  simp only [k0_pay159, k0_pay161, k0_pay162, k0_pay163, k0_pay167, k0_pay168, k0_pay169, k0_pay170, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 172 of the kernel's computation, on vectors of reals. -/
theorem pay172_up : k0_pay172 (F := Ideal) (up P) (up Q) (up 0) (up 0) (up Q) (up 0) (up 0) = up (P + P * (Q * Q)) := by
  simp only [k0_pay171, k0_pay172, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 173 of the kernel's computation, on vectors of reals. -/
theorem pay173_up : k0_pay173 (F := Ideal) (up Q) (up 0) (up 0) (up Q) (up 0) (up 0) = up ((Q * Q) * (Q * Q)) := by
  simp only [k0_pay171, k0_pay173, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 174 of the kernel's computation, on vectors of reals. -/
theorem pay174_up : k0_pay174 (F := Ideal) (up W) (up P) (up Q) = up (W * (P + P * Q)) := by
  simp only [k0_pay174, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 175 of the kernel's computation, on vectors of reals. -/
theorem pay175_up : k0_pay175 (F := Ideal) (bm lo) (up B) (up (cBA S B K XA XB)) (up (cBB S B K XA XB)) k0_pay144 = up (cXX S B K XA XB) := by
  simp only [k0_pay144, k0_pay175, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 178 of the kernel's computation, on vectors of reals. -/
theorem pay178_up : k0_pay178 (F := Ideal) (up P) (up S) (up (cSV S B K XA XB V0 V1)) (up (cU S B K XA XB V0 V1)) (up (cXX S B K XA XB)) = up (had (cS S B K XA XB V0 V1) (row (sub 3 0 (by norm_num) P))) := by
  simp only [k0_pay176, k0_pay177, k0_pay178, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 179 of the kernel's computation, on vectors of reals. -/
theorem pay179_up : k0_pay179 (F := Ideal) (bm lo) (up Y) (up (cY0 S B K XA XB V0 V1)) (up (cU S B K XA XB V0 V1)) (up (cXX S B K XA XB)) = shapeCast S1x1x64x128 (up (pick lo Y (swap (cY S B K XA XB V0 V1))) : FVec Ideal S64x128 .bf16) shapeCasts_S64x128_S1x1x64x128 := by
  simp only [k0_pay176, k0_pay177, k0_pay178, k0_pay179, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 180 of the kernel's computation, on vectors of reals. -/
theorem pay180_up : k0_pay180 (F := Ideal) (bm lo) (up Y) (up (cY0 S B K XA XB V0 V1)) (up (cU S B K XA XB V0 V1)) (up (cXX S B K XA XB)) = shapeCast S1x1x64x128 (up (pick lo (swap Y) (cY S B K XA XB V0 V1)) : FVec Ideal S64x128 .bf16) shapeCasts_S64x128_S1x1x64x128 := by
  simp only [k0_pay176, k0_pay177, k0_pay178, k0_pay180, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

/-- Step 181 of the kernel's computation, on vectors of reals. -/
theorem pay181_up : k0_pay181 (F := Ideal) (up P) (up S) (up (cSV S B K XA XB V0 V1)) (up (cU S B K XA XB V0 V1)) (up (cXX S B K XA XB)) = up (sub 0 0 (by norm_num) (had (cS S B K XA XB V0 V1) (row (sub 3 0 (by norm_num) P)))) := by
  simp only [k0_pay176, k0_pay177, k0_pay178, k0_pay181, ↓cat2_eq, ↓cat3_eq, ↓cat6_eq, and_self, true_and, le_refl, truncf_up, extf_up, subf_up, addf_up, mulf_up, exp_up, zeros_up, select_up, hcat_up_64, hcat_up_128, vcat_up_256, vcat_up_128, vcat3_up, cut_128_128_64_128_0_0, cut_128_128_64_128_64_0, cut_192_128_64_128_0_0, cut_192_128_64_128_64_0, cut_192_128_64_128_128_0, cut_192_256_192_128_0_0, cut_192_256_192_128_0_128, cut_64_256_64_128_0_0, cut_64_256_64_128_0_128, cut_128_256_128_128_0_0, cut_128_256_128_128_0_128, cut_64_128_64_64_0_0, cut_64_128_64_64_0_64, cut_128_128_1_128_0_0, cut_128_128_1_128_1_0, cut_128_128_1_128_2_0, cut_128_128_1_128_3_0, slab_0_0, slab_0_64, slab_1_0, slab_1_64, dot6_128_128, dot6_64_128, dot6_64_256, dot6_192_256, dot3_left, dot3_right, ↓rot_eq, rot_up, ↓rows64_eq, ↓rows128_eq, rows64_up, rows128_up, transpose_up, ↓eye_up, sub_self, add_zero, zero_add]
  try rfl

end Cert.WKV
-- ==== Proof.Masks.lean ====
module

public import proofs.«01_k».proof.Proof.Chunk
public import proofs.«01_k».proof.Proof.Gen.KernelIdeal.Frame

/-! The masks the kernel builds from row and column numbers, each as a truth table over its indices. -/

@[expose] public section

set_option maxRecDepth 16384

noncomputable section

namespace Cert.WKV

open Idealize.ShloMosaic Cert.KernelIdeal Cert.KernelIdeal.Gen

/-- Same chunk of 64 steps. -/
theorem w10 (s : Fin 128) (c : Fin 256) :
    kernelRun0_A.sl.r_10 (ix2 s c) = BitVec.ofBool (decide (s.1 / 64 = c.1 / 64)) := by
  pointwise [kernelRun0_A.sl.r_10, kernelRun0_A.sl.v73, kernelRun0_A.sl.v74, k0_pay12, k0_pay13, k0_pay14, k0_pay15]
  revert s c
  decide +kernel

/-- First half of a chunk. -/
theorem w11 (s : Fin 128) (c : Fin 256) :
    kernelRun0_A.sl.r_11 (ix2 s c) = BitVec.ofBool (decide (s.1 % 64 < 32)) := by
  pointwise [kernelRun0_A.sl.r_11, kernelRun0_A.sl.v73, k0_pay16, k0_pay17]
  revert s
  decide +kernel

/-- The chunk a total of the right half belongs to. -/
theorem w13 (s : Fin 128) (c : Fin 128) :
    kernelRun0_A.sl.r_13 (ix2 s ⟨128 + c.1, by omega⟩) = BitVec.ofBool (decide (s.1 / 64 = c.1 / 2)) := by
  pointwise [kernelRun0_A.sl.r_13, kernelRun0_A.sl.v73, kernelRun0_A.sl.v74, k0_pay23, k0_pay20, k0_pay21, k0_pay22, k0_pay19]
  revert s c
  decide +kernel

/-- The lanes of the lower half. -/
theorem wlo : k0_pay43 = bm lo := by
  funext y
  idx_vars y
  pointwise [k0_pay43]
  simp only [bm, lo]
  revert y0 y1
  decide +kernel

/-- The first head's order of time. -/
theorem wA : kernelRun0_A.sl.r_24 = bm mA := by
  funext y
  idx_vars y
  pointwise [kernelRun0_A.sl.r_24, kernelRun0_A.sl.v304, kernelRun0_A.sl.v305, k0_pay45, k0_pay46, k0_pay49, k0_pay48, k0_pay47]
  simp only [bm, mA]
  revert y0 y1
  decide +kernel

/-- The second head's order of time. -/
theorem wB : kernelRun0_A.sl.r_25 = bm mB := by
  funext y
  idx_vars y
  pointwise [kernelRun0_A.sl.r_25, kernelRun0_A.sl.v304, kernelRun0_A.sl.v305, k0_pay45, k0_pay46, k0_pay50, k0_pay48, k0_pay47]
  simp only [bm, mB]
  revert y0 y1
  decide +kernel

/-- Comparison of step numbers. -/
theorem le_bits (s : Fin 128) (c : Fin 128) :
    IntOp.cmpi .sle (BitVec.ofNat 32 s.1) (BitVec.ofNat 32 c.1) = BitVec.ofBool (decide (s.1 ≤ c.1)) := by
  revert s c
  decide +kernel

end Cert.WKV
-- ==== Proof.Tri.lean ====
module

public import proofs.«01_k».proof.Proof.Masks

/-! The matrix whose product with the decay logarithms gives their running sums. -/

@[expose] public section

set_option maxRecDepth 16384

noncomputable section

namespace Cert.WKV

open Idealize.ShloMosaic Cert.KernelIdeal Cert.KernelIdeal.Gen

/-- The running sums within a chunk, counted from its middle. -/
def triL : Matrix (Fin 128) (Fin 128) ℝ := fun s c =>
  (if s.1 / 64 = c.1 / 64 ∧ s.1 ≤ c.1 then 1 else 0) - (if s.1 / 64 = c.1 / 64 ∧ s.1 % 64 < 32 then 1 else 0)

/-- The sums over half chunks. -/
def triR : Matrix (Fin 128) (Fin 128) ℝ := fun s c =>
  if s.1 / 64 = c.1 / 2 ∧ (c.1 % 2 = 0 ∧ s.1 % 64 < 32 ∨ c.1 % 2 = 1 ∧ ¬ s.1 % 64 < 32) then 1 else 0

/-- Both, side by side. -/
def tri : Matrix (Fin 128) (Fin 256) ℝ := hcat (p := 128) (q := 128) (by norm_num) triL triR

/-- A choice of one or zero. -/
theorem sel_one (p : Prop) [Decidable p] :
    (Scalar.select (BitVec.ofBool (decide p)) (1 : EReal) 0) = (((if p then 1 else 0 : ℝ)) : EReal) := by
  by_cases h : p <;> simp [h, Scalar.select]

/-- Conjunction of truth values. -/
theorem and_bits (p q : Prop) [Decidable p] [Decidable q] :
    IntOp.andi (BitVec.ofBool (decide p)) (BitVec.ofBool (decide q)) = BitVec.ofBool (decide (p ∧ q)) := by
  by_cases hp : p <;> by_cases hq : q <;> simp [hp, hq] <;> rfl

/-- The left half of the summation matrix. -/
theorem w12 (s : Fin 128) (c : Fin 128) :
    kernelRun0_A.sl.r_12 (F := Ideal) (ix2 s ⟨c.1, by omega⟩) = ((triL s c : ℝ) : EReal) := by
  have h11 := w11 s ⟨c.1, by omega⟩
  rw [kernelRun0_A.sl.r_11] at h11
  pointwise [kernelRun0_A.sl.r_12, k0_pay18]
  rw [h11, w10]
  pointwise [kernelRun0_A.sl.v73, kernelRun0_A.sl.v74]
  rw [le_bits, and_bits, and_bits, sel_one, sel_one, ← EReal.coe_sub]
  rfl

/-- The summation matrix. -/
theorem w14 : kernelRun0_A.sl.r_14 (F := Ideal) = up tri := by
  funext y
  idx_vars y
  pointwise [kernelRun0_A.sl.r_14, k0_pay28, k0_pay24, k0_pay25, k0_pay26, k0_pay27]
  rw [w11]
  obtain ⟨n, hn⟩ := y1
  by_cases hc : n < 128
  · have h : IntOp.cmpi .slt (BitVec.ofNat 32 n) 128#32 = 1#1 :=
      (by decide +kernel : ∀ c : Fin 128, IntOp.cmpi .slt (BitVec.ofNat 32 c.1) 128#32 = 1#1) ⟨n, hc⟩
    rw [w12 y0 ⟨n, hc⟩]
    pointwise [kernelRun0_A.sl.v73, kernelRun0_A.sl.v74]
    rw [h]
    simp [Scalar.select, up_ix2, tri, hcat, hc]
  · obtain ⟨k, rfl⟩ : ∃ k, n = 128 + k := ⟨n - 128, by omega⟩
    have hk : k < 128 := by omega
    have h : IntOp.cmpi .slt (BitVec.ofNat 32 (128 + k)) 128#32 = 0#1 :=
      (by decide +kernel : ∀ c : Fin 128, IntOp.cmpi .slt (BitVec.ofNat 32 (128 + c.1)) 128#32 = 0#1) ⟨k, hk⟩
    rw [w13 y0 ⟨k, hk⟩]
    pointwise [kernelRun0_A.sl.v73, kernelRun0_A.sl.v74]
    rw [h]
    trans Scalar.select (BitVec.ofBool (decide (y0.1 / 64 = k / 2 ∧ (k % 2 = 0 ∧ y0.1 % 64 < 32 ∨ k % 2 = 1 ∧ ¬ y0.1 % 64 < 32)))) (1 : EReal) 0
    · rw [show ∀ a b : EReal, Scalar.select 0#1 a b = b from fun _ _ => rfl]
      refine congrArg (fun z => Scalar.select z (1 : EReal) 0) ?_
      clear h hc hn
      obtain ⟨c, rfl⟩ : ∃ c : Fin 128, c.1 = k := ⟨⟨k, hk⟩, rfl⟩
      revert c
      intro c _
      revert c y0
      decide +kernel
    · rw [sel_one]
      simp [up_ix2, tri, hcat, triR]

end Cert.WKV
-- ==== Proof.Block.lean ====
module

public import proofs.«01_k».proof.Proof.Prep
public import proofs.«01_k».proof.Proof.Pay0
public import proofs.«01_k».proof.Proof.Pay1
public import proofs.«01_k».proof.Proof.Tri
public import Idealize.ShloMosaic.Lib.WholeRead

/-! One grid point's inputs as reals, and what the kernel computes from them, chunk by chunk. -/

@[expose] public section

set_option maxRecDepth 16384

noncomputable section

namespace Cert.WKV

open Idealize.ShloMosaic Cert.KernelIdeal Cert.KernelIdeal.Gen

/-- The real inputs of one grid point: lengths, the codes and their scales, the other vectors, the initial states. -/
structure Ins where
  x0 : Vec Ideal S2 .i32
  r : Fin 2 → Matrix (Fin 64) (Fin 128) ℝ
  k : Fin 2 → Matrix (Fin 64) (Fin 128) ℝ
  v : Fin 2 → Matrix (Fin 64) (Fin 128) ℝ
  rs : Matrix (Fin 40) (Fin 128) ℝ
  ks : Matrix (Fin 40) (Fin 128) ℝ
  vs : Matrix (Fin 40) (Fin 128) ℝ
  wl : Fin 2 → Matrix (Fin 64) (Fin 128) ℝ
  kk : Fin 2 → Matrix (Fin 64) (Fin 128) ℝ
  ic : Fin 2 → Matrix (Fin 64) (Fin 128) ℝ
  s0 : Fin 2 → Matrix (Fin 64) (Fin 64) ℝ

/-- The two rows of a scale array that belong to the grid point's heads. -/
def rows2 (i : grid0.Coords) (s : Matrix (Fin 40) (Fin 128) ℝ) : Matrix (Fin 2) (Fin 128) ℝ :=
  fun h t => s ⟨2 * (i 1).1 + h.1, by have h1 : (i 1).1 < 20 := (i 1).2; omega⟩ t

namespace Ins
variable (D : Ins) (i : grid0.Coords)

/-- The sequence's length. -/
def n : BitVec 32 := D.x0 (ix1 ⟨(i 0).1, (i 0).2⟩)
/-- The masked decay logarithms. -/
def L : Matrix (Fin 128) (Fin 128) ℝ := had (0 - ex (flat D.wl)) (row (val (D.n i)))
/-- The decays over half chunks. -/
def P : Matrix (Fin 128) (Fin 128) ℝ := eN (D.L i) tri
/-- The read vectors, scaled. -/
def R : Matrix (Fin 128) (Fin 128) ℝ :=
  had (flat D.r) (had (had (rep (rows2 i D.rs)) (row (val (D.n i)))) (ex (lC (D.L i) tri)))
/-- The removal query vectors, scaled. -/
def A : Matrix (Fin 128) (Fin 128) ℝ := had (flat D.kk) (ex (lC (D.L i) tri - D.L i))
/-- The removal vectors, scaled, a row for each step. -/
def Bn : Matrix (Fin 128) (Fin 128) ℝ :=
  (had (had (had (flat D.kk) (flat D.ic)) (ex (0 - lC (D.L i) tri))) (row (0 - val (D.n i)))).transpose
/-- The insertion vectors, scaled, a row for each step. -/
def Kn : Matrix (Fin 128) (Fin 128) ℝ :=
  (had (flat D.k) (had (had (had (rep (rows2 i D.ks)) (rep (rows2 i D.vs))) (row (val (D.n i)))) (ex (0 - lC (D.L i) tri)))).transpose
/-- The first chunk's initial states, scaled. -/
def Z0 : Matrix (Fin 64) (Fin 128) ℝ :=
  had (hcat (p := 64) (q := 64) (by norm_num) (D.s0 0) (D.s0 1)) (row (sub 0 0 (by norm_num) (D.P i)))
/-- The first chunk's output. -/
def Y0 : Matrix (Fin 64) (Fin 128) ℝ :=
  cY (D.Z0 i) (sub 0 0 (by norm_num) (D.Bn i)) (sub 0 0 (by norm_num) (D.Kn i)) (xA0 (D.R i) (D.A i)) (xB0 (D.R i) (D.A i))
    (sub 0 0 (by norm_num) (D.v 0)) (sub 0 0 (by norm_num) (D.v 1))
/-- The second chunk's initial states, scaled. -/
def Z1 : Matrix (Fin 64) (Fin 128) ℝ :=
  had (cS (D.Z0 i) (sub 0 0 (by norm_num) (D.Bn i)) (sub 0 0 (by norm_num) (D.Kn i)) (xA0 (D.R i) (D.A i)) (xB0 (D.R i) (D.A i))
    (sub 0 0 (by norm_num) (D.v 0)) (sub 0 0 (by norm_num) (D.v 1)))
    (row (had (sub 1 0 (by norm_num) (D.P i)) (sub 2 0 (by norm_num) (D.P i))))
/-- The second chunk's output. -/
def Y1 : Matrix (Fin 64) (Fin 128) ℝ :=
  cY (D.Z1 i) (sub 64 0 (by norm_num) (D.Bn i)) (sub 64 0 (by norm_num) (D.Kn i)) (xA1 (D.R i) (D.A i)) (xB1 (D.R i) (D.A i))
    (sub 0 64 (by norm_num) (D.v 0)) (sub 0 64 (by norm_num) (D.v 1))
/-- The final states. -/
def SF : Matrix (Fin 64) (Fin 128) ℝ :=
  had (cS (D.Z1 i) (sub 64 0 (by norm_num) (D.Bn i)) (sub 64 0 (by norm_num) (D.Kn i)) (xA1 (D.R i) (D.A i)) (xB1 (D.R i) (D.A i))
    (sub 0 64 (by norm_num) (D.v 0)) (sub 0 64 (by norm_num) (D.v 1))) (row (sub 3 0 (by norm_num) (D.P i)))
end Ins

/-- A whole block read back. -/
theorem read4 {φ : EltTy} {κ : Kind} (M : Memref sig κ .vmem S1x2x64x128 φ) (h : M.IsWhole) (X : Vec Ideal S1x2x64x128 φ) (inb) :
    View.readAt (Elt Ideal) M.view (Rect.unit (s := S1x2x64x128) ![0, 0, 0, 0] S1x2x64x128.size inb).toLoadRect (h.unread X) = X := by
  rw [View.readAt_eq_ld, View.ld_unit_zero (by decide), Memref.IsWhole.read_unread]

/-- A head's initial state. -/
theorem readS0 {κ : Kind} (M : Memref sig κ .vmem S1x2x64x64 .f32) (h : M.IsWhole) (X : Fin 2 → Matrix (Fin 64) (Fin 64) ℝ) (inb) :
    View.readAt (Elt Ideal) M.view (Rect.unit (s := S1x2x64x64) ![0, 0, 0, 0] S1x1x64x64.size inb).toLoadRect (h.unread (up4 (φ := .f32) fun _ => X))
      = (up4 (φ := .f32) fun _ _ => X 0 : FVec Ideal S1x1x64x64 .f32) := by
  rw [View.readAt_eq_ld, Memref.IsWhole.read_unread, View.ld_unit]
  funext y
  idx_vars y
  pointwise []
  rfl

/-- The second head's initial state. -/
theorem readS1 {κ : Kind} (M : Memref sig κ .vmem S1x2x64x64 .f32) (h : M.IsWhole) (X : Fin 2 → Matrix (Fin 64) (Fin 64) ℝ) (inb) :
    View.readAt (Elt Ideal) M.view (Rect.unit (s := S1x2x64x64) ![0, 1, 0, 0] S1x1x64x64.size inb).toLoadRect (h.unread (up4 (φ := .f32) fun _ => X))
      = (up4 (φ := .f32) fun _ _ => X 1 : FVec Ideal S1x1x64x64 .f32) := by
  rw [View.readAt_eq_ld, Memref.IsWhole.read_unread, View.ld_unit]
  funext y
  idx_vars y
  pointwise []
  rfl

/-- The two heads' rows of the scales. -/
theorem read3 {κ : Kind} (M : Memref sig κ .vmem S1x40x128 .f32) (h : M.IsWhole) (X : Matrix (Fin 40) (Fin 128) ℝ) (i : grid0.Coords) (inb) :
    View.readAt (Elt Ideal) M.view (Rect.unit (s := S1x40x128) (k0_off2 i) S1x2x128.size inb).toLoadRect (h.unread (up3 (φ := .f32) fun _ => X))
      = (up3 (φ := .f32) fun _ => rows2 i X : FVec Ideal S1x2x128 .f32) := by
  rw [View.readAt_unit_congr _ (k0_off2_eq i) _ (fun a => by rw [← k0_off2_eq i]; exact inb a)]
  rw [View.readAt_eq_ld, Memref.IsWhole.read_unread, View.ld_unit]
  funext y
  idx_vars y
  pointwise []
  rfl

/-- The length read. -/
theorem read0 (D : Ins) (c : Dev nD) (i : grid0.Coords) (M : Memref sig .tc .smem S2 .i32) (h : M.IsWhole) :
    kernelRun0_A.sl.r (F := Ideal) c i M h D.x0 = D.n i := by
  rw [kernelRun0_A.sl.r, Memref.IsWhole.readAt_unread, Ins.n]
  refine congrArg D.x0 (funext fun a => ?_)
  obtain rfl : a = 0 := Subsingleton.elim _ _
  apply Fin.ext
  show k0_off1 i 0 + 1 * 0 = (i 0).1
  rw [k0_off1_eq]
  rfl

end Cert.WKV
-- ==== Proof.Spec.lean ====
module

public import proofs.«01_k».proof.Proof.Heads
public import proofs.«01_k».proof.Proof.Block

/-! The recurrence one head follows, step by step, and its scaled form inside a chunk of 64 steps. -/

@[expose] public section

set_option maxRecDepth 16384

noncomputable section

namespace Cert.WKV

open Idealize.ShloMosaic

/-- One head's inputs: the sequence's length; codes, decay exponents, removal vectors and rates by channel and step;
the codes' scales by step; the initial state. -/
structure Head where
  n : BitVec 32
  r : Matrix (Fin 64) (Fin 128) ℝ
  k : Matrix (Fin 64) (Fin 128) ℝ
  v : Matrix (Fin 64) (Fin 128) ℝ
  wl : Matrix (Fin 64) (Fin 128) ℝ
  kk : Matrix (Fin 64) (Fin 128) ℝ
  ic : Matrix (Fin 64) (Fin 128) ℝ
  rs : Fin 128 → ℝ
  ks : Fin 128 → ℝ
  vs : Fin 128 → ℝ
  s0 : Matrix (Fin 64) (Fin 64) ℝ

/-- Step `t` lies before the sequence's end. -/
abbrev ok (n : BitVec 32) (t : Fin 128) : Prop := (BitVec.ofNat 32 t.1).slt n = true

namespace Head
variable (H : Head)

/-- One step of the recurrence. -/
def step (t : Fin 128) (S : Matrix (Fin 64) (Fin 64) ℝ) : Matrix (Fin 64) (Fin 64) ℝ := fun p q =>
  if ok H.n t then
    S p q * Real.exp (0 - Real.exp (H.wl q t)) + (∑ l, S p l * (0 - H.kk l t)) * (H.kk q t * H.ic q t)
      + (H.v p t * H.vs t) * (H.k q t * H.ks t)
  else S p q

/-- The state after `t` steps. -/
def st : ℕ → Matrix (Fin 64) (Fin 64) ℝ
  | 0 => H.s0
  | t + 1 => if h : t < 128 then H.step ⟨t, h⟩ (st t) else st t

/-- The output of step `t`. -/
def y (p : Fin 64) (t : Fin 128) : ℝ := if ok H.n t then ∑ q, H.st (t.1 + 1) p q * (H.r q t * H.rs t) else 0

/-- The state after one more step. -/
theorem st_succ (t : Fin 128) : H.st (t.1 + 1) = H.step t (H.st t.1) := by
  rw [st, dif_pos t.2]

/-- The masked decay logarithm. -/
def lw (q : Fin 64) (t : Fin 128) : ℝ := (0 - Real.exp (H.wl q t)) * val H.n 0 t

/-- The decay's logarithm over the first `t` steps of the chunk at `T`, counted from the chunk's middle. -/
def lam (T t : ℕ) (q : Fin 64) : ℝ :=
  ∑ s : Fin 128, H.lw q s * ((if T ≤ s.1 ∧ s.1 < T + t then 1 else 0) - (if T ≤ s.1 ∧ s.1 < T + 32 then 1 else 0))

/-- The running sum of the log decays after one more step. -/
theorem lam_succ (T : ℕ) (t : Fin 64) (hT : T + 64 ≤ 128) (q : Fin 64) :
    H.lam T (t.1 + 1) q = H.lam T t.1 q + H.lw q ⟨T + t.1, by omega⟩ := by
  have : ∀ s : Fin 128, H.lw q s * ((if T ≤ s.1 ∧ s.1 < T + (t.1 + 1) then 1 else 0) - (if T ≤ s.1 ∧ s.1 < T + 32 then 1 else 0))
      = H.lw q s * ((if T ≤ s.1 ∧ s.1 < T + t.1 then 1 else 0) - (if T ≤ s.1 ∧ s.1 < T + 32 then 1 else 0))
        + (if s = ⟨T + t.1, by omega⟩ then H.lw q s else 0) := by
    intro s
    by_cases hs : s = ⟨T + t.1, by omega⟩
    · subst hs
      simp only [if_true, show T ≤ T + t.1 from by omega, show T + t.1 < T + (t.1 + 1) from by omega, lt_irrefl, and_true, and_false, if_false]
      ring
    · have hs' : s.1 ≠ T + t.1 := fun e => hs (Fin.ext e)
      have : (T ≤ s.1 ∧ s.1 < T + (t.1 + 1)) ↔ (T ≤ s.1 ∧ s.1 < T + t.1) := by omega
      simp only [this, hs, if_false, add_zero]
  rw [lam, lam, Finset.sum_congr rfl fun s _ => this s, Finset.sum_add_distrib]
  simp

/-- The scaled state inside the chunk at `T`. -/
def Z (T t : ℕ) : Matrix (Fin 64) (Fin 64) ℝ := fun p q => H.st (T + t) p q * Real.exp (0 - H.lam T t q)

/-- Inside a chunk the scaled state follows an undecayed recurrence. -/
theorem rec_Z (T : ℕ) (hT : T + 64 ≤ 128) :
    Rec (H.Z T) (fun p t => H.v p ⟨T + t.1, by omega⟩)
      (fun s q => H.k q ⟨T + s.1, by omega⟩ * (H.ks ⟨T + s.1, by omega⟩ * H.vs ⟨T + s.1, by omega⟩ * val H.n 0 ⟨T + s.1, by omega⟩ * Real.exp (0 - H.lam T (s.1 + 1) q)))
      (fun l t => H.kk l ⟨T + t.1, by omega⟩ * Real.exp (H.lam T (t.1 + 1) l - H.lw l ⟨T + t.1, by omega⟩))
      (fun s q => H.kk q ⟨T + s.1, by omega⟩ * H.ic q ⟨T + s.1, by omega⟩ * Real.exp (0 - H.lam T (s.1 + 1) q) * (0 - val H.n 0 ⟨T + s.1, by omega⟩)) := by
  intro t p q
  have hs := congrFun (congrFun (H.st_succ ⟨T + t.1, by omega⟩) p) q
  have hl := H.lam_succ T t hT
  simp only [Z]
  rw [← add_assoc, hs, step]
  have e : (∑ l, H.st (T + t.1) p l * Real.exp (0 - H.lam T t.1 l) * (H.kk l ⟨T + t.1, by omega⟩ * Real.exp (H.lam T (t.1 + 1) l - H.lw l ⟨T + t.1, by omega⟩)))
      = ∑ l, H.st (T + t.1) p l * H.kk l ⟨T + t.1, by omega⟩ := by
    refine Finset.sum_congr rfl fun l _ => ?_
    rw [hl l, add_sub_cancel_right]
    have := Real.exp_add (0 - H.lam T t.1 l) (H.lam T t.1 l)
    rw [sub_add_cancel, Real.exp_zero] at this
    linear_combination (-(H.st (T + t.1) p l * H.kk l ⟨T + t.1, by omega⟩)) * this
  rw [e, hl q]
  by_cases hk : ok H.n ⟨T + t.1, by omega⟩
  · have hv : val H.n 0 ⟨T + t.1, by omega⟩ = 1 := if_pos hk
    have hw : H.lw q ⟨T + t.1, by omega⟩ = 0 - Real.exp (H.wl q ⟨T + t.1, by omega⟩) := by rw [lw, hv, mul_one]
    rw [if_pos hk, hv, ← hw]
    have h1 : (∑ l, H.st (T + t.1) p l * (0 - H.kk l ⟨T + t.1, by omega⟩)) = - ∑ l, H.st (T + t.1) p l * H.kk l ⟨T + t.1, by omega⟩ := by
      rw [← Finset.sum_neg_distrib]
      exact Finset.sum_congr rfl fun l _ => by ring
    have h2 : Real.exp (H.lw q ⟨T + t.1, by omega⟩) * Real.exp (0 - (H.lam T t.1 q + H.lw q ⟨T + t.1, by omega⟩)) = Real.exp (0 - H.lam T t.1 q) := by
      rw [← Real.exp_add]; congr 1; ring
    rw [h1, ← h2]
    ring
  · have hv : val H.n 0 ⟨T + t.1, by omega⟩ = 0 := if_neg hk
    have hw : H.lw q ⟨T + t.1, by omega⟩ = 0 := by rw [lw, hv, mul_zero]
    rw [if_neg hk, hv, hw]
    simp

/-- The scaled state, read with a scaled vector, is the output. -/
theorem read_Z (T : ℕ) (hT : T + 64 ≤ 128) (p t : Fin 64) :
    (∑ l, H.Z T (t.1 + 1) p l * (H.r l ⟨T + t.1, by omega⟩ * (H.rs ⟨T + t.1, by omega⟩ * val H.n 0 ⟨T + t.1, by omega⟩ * Real.exp (H.lam T (t.1 + 1) l))))
      = H.y p ⟨T + t.1, by omega⟩ := by
  rw [y]
  by_cases hk : ok H.n ⟨T + t.1, by omega⟩
  · have hv : val H.n 0 ⟨T + t.1, by omega⟩ = 1 := if_pos hk
    rw [if_pos hk, hv]
    refine Finset.sum_congr rfl fun l _ => ?_
    have := Real.exp_add (0 - H.lam T (t.1 + 1) l) (H.lam T (t.1 + 1) l)
    rw [sub_add_cancel, Real.exp_zero] at this
    simp only [Z, ← add_assoc]
    linear_combination (-(H.st (T + t.1 + 1) p l * (H.r l ⟨T + t.1, by omega⟩ * H.rs ⟨T + t.1, by omega⟩))) * this
  · have hv : val H.n 0 ⟨T + t.1, by omega⟩ = 0 := if_neg hk
    rw [if_neg hk, hv]
    simp

end Head

end Cert.WKV
-- ==== Proof.Arrays.lean ====
module

public import proofs.«01_k».proof.Proof.Spec

/-! The programs' arguments as arrays of reals, and the results they determine. -/

@[expose] public section

noncomputable section

namespace Cert.WKV

open Idealize.ShloMosaic

/-- Arguments of reals: per batch entry and step the head's vectors and scales, per batch entry and head the initial state, per batch entry the length. -/
structure Arr where
  r : Fin 2 → Fin 128 → Matrix (Fin 40) (Fin 64) ℝ
  k : Fin 2 → Fin 128 → Matrix (Fin 40) (Fin 64) ℝ
  v : Fin 2 → Fin 128 → Matrix (Fin 40) (Fin 64) ℝ
  rs : Fin 2 → Matrix (Fin 128) (Fin 40) ℝ
  ks : Fin 2 → Matrix (Fin 128) (Fin 40) ℝ
  vs : Fin 2 → Matrix (Fin 128) (Fin 40) ℝ
  wl : Fin 2 → Fin 128 → Matrix (Fin 40) (Fin 64) ℝ
  kk : Fin 2 → Fin 128 → Matrix (Fin 40) (Fin 64) ℝ
  ic : Fin 2 → Fin 128 → Matrix (Fin 40) (Fin 64) ℝ
  s0 : Fin 2 → Fin 40 → Matrix (Fin 64) (Fin 64) ℝ
  len : IVec ⟨1, ![2]⟩ 32

namespace Arr
variable (X : Arr)

/-- One head of one batch entry. -/
def head (b : Fin 2) (h : Fin 40) : Head where
  n := X.len (ix1 b)
  r := fun q t => X.r b t h q
  k := fun q t => X.k b t h q
  v := fun q t => X.v b t h q
  wl := fun q t => X.wl b t h q
  kk := fun q t => X.kk b t h q
  ic := fun q t => X.ic b t h q
  rs := fun t => X.rs b t h
  ks := fun t => X.ks b t h
  vs := fun t => X.vs b t h
  s0 := X.s0 b h

/-- The outputs of all steps. -/
def Y : FVec Ideal ⟨4, ![2, 128, 40, 64]⟩ .bf16 := up4 fun b t h p => (X.head b h).y p t

/-- The final states. -/
def S : FVec Ideal ⟨4, ![2, 40, 64, 64]⟩ .f32 := up4 fun b h => (X.head b h).st 128

/-- The arguments are these reals. -/
structure Is (x0 x1 x2 : FVec Ideal ⟨4, ![2, 128, 40, 64]⟩ .f32) (x3 x4 x5 : FVec Ideal ⟨3, ![2, 128, 40]⟩ .f32)
    (x6 x7 x8 : FVec Ideal ⟨4, ![2, 128, 40, 64]⟩ .bf16) (x9 : FVec Ideal ⟨4, ![2, 40, 64, 64]⟩ .f32) (x10 : IVec ⟨1, ![2]⟩ 32) : Prop where
  e0 : x0 = up4 X.r
  e1 : x1 = up4 X.k
  e2 : x2 = up4 X.v
  e3 : x3 = up3 X.rs
  e4 : x4 = up3 X.ks
  e5 : x5 = up3 X.vs
  e6 : x6 = up4 X.wl
  e7 : x7 = up4 X.kk
  e8 : x8 = up4 X.ic
  e9 : x9 = up4 X.s0
  e10 : x10 = X.len

end Arr

end Cert.WKV
-- ==== Proof.Finite.lean ====
module

public import proofs.«01_k».proof.Proof.Arrays
public import proofs.«01_k».proof.Proof.Gen.Pre_finite
public import Idealize.ShloMosaic.Lib.ReduceAll

/-! Under the precondition every float argument is an array of reals. -/

@[expose] public section

noncomputable section

namespace Cert.WKV

open Idealize.ShloMosaic

/-- An extended real of absolute value below infinity is a real. -/
theorem real_of_lt (x : EReal) (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee]
  rw [e] at h
  have h' : max x (-x) < ⊤ := by
    by_contra hn
    simp [Ideal.cmp, hn] at h
  rcases max_lt_iff.mp h' with ⟨h1, h2⟩
  refine (EReal.coe_toReal h1.ne ?_).symm
  rintro rfl
  simp at h2

/-- Two conditions that hold together hold each. -/
theorem and_one (a b : BitVec 1) (h : a &&& b = 1#1) : a = 1#1 ∧ b = 1#1 := by revert a b; decide

open Cert.Pre_finite in
/-- The precondition's arguments are arrays of reals. -/
theorem exists_arr (x0 x1 x2 : FVec Ideal S2x128x40x64 .f32) (x3 x4 x5 : FVec Ideal S2x128x40 .f32)
    (x6 x7 x8 : FVec Ideal S2x128x40x64 .bf16) (x9 : FVec Ideal S2x40x64x64 .f32) (x10 : IVec S2 32)
    (h : Cert.Pre_finite.fn (F := Ideal) x0 x1 x2 x3 x4 x5 x6 x7 x8 x9 x10 = fun _ => 1#1) :
    ∃ X : Arr, X.Is x0 x1 x2 x3 x4 x5 x6 x7 x8 x9 x10 := by
  have h := congrFun h (fun a => a.elim0)
  dsimp only [Cert.Pre_finite.fn, Cert.Pre_finite.fn_part1, Cert.Pre_finite.fn_part2] at h
  have ⟨h, h9⟩ := and_one _ _ h
  have ⟨h, h8⟩ := and_one _ _ h
  have ⟨h, h7⟩ := and_one _ _ h
  have ⟨h, h6⟩ := and_one _ _ h
  have ⟨h, h5⟩ := and_one _ _ h
  have ⟨h, h4⟩ := and_one _ _ h
  have ⟨h, h3⟩ := and_one _ _ h
  have ⟨h, h2⟩ := and_one _ _ h
  have ⟨h0, h1⟩ := and_one _ _ h
  refine ⟨{ r := fun a b c d => (x0 (ix4 a b c d)).toReal, k := fun a b c d => (x1 (ix4 a b c d)).toReal,
            v := fun a b c d => (x2 (ix4 a b c d)).toReal, rs := fun a b c => (x3 (ix3 a b c)).toReal,
            ks := fun a b c => (x4 (ix3 a b c)).toReal, vs := fun a b c => (x5 (ix3 a b c)).toReal,
            wl := fun a b c d => (x6 (ix4 a b c d)).toReal, kk := fun a b c d => (x7 (ix4 a b c d)).toReal,
            ic := fun a b c d => (x8 (ix4 a b c d)).toReal, s0 := fun a b c d => (x9 (ix4 a b c d)).toReal, len := x10 },
    ⟨?_, ?_, ?_, ?_, ?_, ?_, ?_, ?_, ?_, ?_, rfl⟩⟩
  · funext y; idx_vars y; exact real_of_lt _ (Host.reduce_andi_all _ _ _ _ _ h0 _)
  · funext y; idx_vars y; exact real_of_lt _ (Host.reduce_andi_all _ _ _ _ _ h1 _)
  · funext y; idx_vars y; exact real_of_lt _ (Host.reduce_andi_all _ _ _ _ _ h2 _)
  · funext y; idx_vars y; exact real_of_lt _ (Host.reduce_andi_all _ _ _ _ _ h3 _)
  · funext y; idx_vars y; exact real_of_lt _ (Host.reduce_andi_all _ _ _ _ _ h4 _)
  · funext y; idx_vars y; exact real_of_lt _ (Host.reduce_andi_all _ _ _ _ _ h5 _)
  · funext y; idx_vars y; exact real_of_lt _ (Host.reduce_andi_all _ _ _ _ _ h6 _)
  · funext y; idx_vars y; exact real_of_lt _ (Host.reduce_andi_all _ _ _ _ _ h7 _)
  · funext y; idx_vars y; exact real_of_lt _ (Host.reduce_andi_all _ _ _ _ _ h8 _)
  · funext y; idx_vars y; exact real_of_lt _ (Host.reduce_andi_all _ _ _ _ _ h9 _)

end Cert.WKV
-- ==== Proof.Words0.lean ====
module

public import proofs.«01_k».proof.Proof.Block

/-! The kernel's intermediate values up to the second chunk's initial state. -/

@[expose] public section

set_option maxRecDepth 16384

noncomputable section

namespace Cert.WKV

open Idealize.ShloMosaic Cert.KernelIdeal Cert.KernelIdeal.Gen

variable (D : Ins) (c : Dev nD) (i : grid0.Coords) (arg2 : Memref sig .tc .smem S2 .i32) (harg2 : arg2.IsWhole) (arg3 : Memref sig .tc .vmem S1x2x64x128 .fp8e4m3) (harg3 : arg3.IsWhole) (arg4 : Memref sig .tc .vmem S1x2x64x128 .fp8e4m3) (harg4 : arg4.IsWhole) (arg5 : Memref sig .tc .vmem S1x2x64x128 .fp8e4m3) (harg5 : arg5.IsWhole) (arg6 : Memref sig .tc .vmem S1x40x128 .f32) (harg6 : arg6.IsWhole) (arg7 : Memref sig .tc .vmem S1x40x128 .f32) (harg7 : arg7.IsWhole) (arg8 : Memref sig .tc .vmem S1x40x128 .f32) (harg8 : arg8.IsWhole) (arg9 : Memref sig .tc .vmem S1x2x64x128 .bf16) (harg9 : arg9.IsWhole) (arg10 : Memref sig .tc .vmem S1x2x64x128 .bf16) (harg10 : arg10.IsWhole) (arg11 : Memref sig .tc .vmem S1x2x64x128 .bf16) (harg11 : arg11.IsWhole) (arg12 : Memref sig .tc .vmem S1x2x64x64 .f32) (harg12 : arg12.IsWhole)

/-- The kernel's word 1. -/
theorem w_1 : kernelRun0_A.sl.r_1 (F := Ideal) c i arg2 harg2 D.x0 = up (val (D.n i)) := by
  rw [kernelRun0_A.sl.r_1]
  simp only [read0, pay3_up]
  try rfl

/-- The kernel's word 2. -/
theorem w_2 : kernelRun0_A.sl.r_2 (F := Ideal) c i arg2 harg2 arg6 harg6 D.x0 (up3 (φ := .f32) fun _ => D.rs) = up (had (rep (rows2 i D.rs)) (row (val (D.n i)))) := by
  rw [kernelRun0_A.sl.r_2]
  simp only [read0, ↓read4, ↓read3, ↓readS0, ↓readS1, pay4_up]
  try rfl

/-- The kernel's word 3. -/
theorem w_3 : kernelRun0_A.sl.r_3 (F := Ideal) c i arg2 harg2 arg7 harg7 arg8 harg8 D.x0 (up3 (φ := .f32) fun _ => D.ks) (up3 (φ := .f32) fun _ => D.vs) = up (had (had (rep (rows2 i D.ks)) (rep (rows2 i D.vs))) (row (val (D.n i)))) := by
  rw [kernelRun0_A.sl.r_3]
  simp only [read0, ↓read4, ↓read3, ↓readS0, ↓readS1, pay5_up]
  try rfl

/-- The kernel's word 4. -/
theorem w_4 : kernelRun0_A.sl.r_4 (F := Ideal) c arg3 harg3 (up4 (φ := .fp8e4m3) fun _ => D.r) = up (flat D.r) := by
  rw [kernelRun0_A.sl.r_4]
  simp only [↓read4, ↓read3, ↓readS0, ↓readS1, pay6_up]
  try rfl

/-- The kernel's word 5. -/
theorem w_5 : kernelRun0_A.sl.r_5 (F := Ideal) c arg4 harg4 (up4 (φ := .fp8e4m3) fun _ => D.k) = up (flat D.k) := by
  rw [kernelRun0_A.sl.r_5]
  simp only [↓read4, ↓read3, ↓readS0, ↓readS1, pay7_up]
  try rfl

/-- The kernel's word 6. -/
theorem w_6 : kernelRun0_A.sl.r_6 (F := Ideal) c arg10 harg10 (up4 (φ := .bf16) fun _ => D.kk) = up (flat D.kk) := by
  rw [kernelRun0_A.sl.r_6]
  simp only [↓read4, ↓read3, ↓readS0, ↓readS1, pay8_up]
  try rfl

/-- The kernel's word 7. -/
theorem w_7 : kernelRun0_A.sl.r_7 (F := Ideal) c arg11 harg11 (up4 (φ := .bf16) fun _ => D.ic) = up (flat D.ic) := by
  rw [kernelRun0_A.sl.r_7]
  simp only [↓read4, ↓read3, ↓readS0, ↓readS1, pay9_up]
  try rfl

/-- The kernel's word 8. -/
theorem w_8 : kernelRun0_A.sl.r_8 (F := Ideal) c arg5 harg5 (up4 (φ := .fp8e4m3) fun _ => D.v) = up3 D.v := by
  rw [kernelRun0_A.sl.r_8]
  simp only [↓read4, ↓read3, ↓readS0, ↓readS1, pay10_up]
  try rfl

/-- The kernel's word 9. -/
theorem w_9 : kernelRun0_A.sl.r_9 (F := Ideal) c i arg2 harg2 arg9 harg9 D.x0 (up4 (φ := .bf16) fun _ => D.wl) = up (D.L i) := by
  rw [kernelRun0_A.sl.r_9]
  simp only [w_1, ↓read4, ↓read3, ↓readS0, ↓readS1, pay11_up]
  try rfl

/-- The kernel's word 15. -/
theorem w_15 : kernelRun0_A.sl.r_15 (F := Ideal) c i arg2 harg2 arg9 harg9 D.x0 (up4 (φ := .bf16) fun _ => D.wl) = up (D.L i) := by
  rw [kernelRun0_A.sl.r_15]
  simp only [w_9, pay32_up]
  try rfl

/-- The kernel's word 16. -/
theorem w_16 : kernelRun0_A.sl.r_16 (F := Ideal) c i arg2 harg2 arg9 harg9 D.x0 (up4 (φ := .bf16) fun _ => D.wl) = up 0 := by
  rw [kernelRun0_A.sl.r_16]
  simp only [w_9, pay33_up]
  try rfl

/-- The kernel's word 17. -/
theorem w_17 : kernelRun0_A.sl.r_17 (F := Ideal) c i arg2 harg2 arg9 harg9 D.x0 (up4 (φ := .bf16) fun _ => D.wl) = up 0 := by
  rw [kernelRun0_A.sl.r_17]
  simp only [w_9, pay34_up]
  try rfl

/-- The kernel's word 18. -/
theorem w_18 : kernelRun0_A.sl.r_18 (F := Ideal) c i arg2 harg2 arg9 harg9 D.x0 (up4 (φ := .bf16) fun _ => D.wl) = up (D.P i) := by
  rw [kernelRun0_A.sl.r_18]
  simp only [w14, w_15, w_16, w_17, pay36_up]
  try rfl

/-- The kernel's word 19. -/
theorem w_19 : kernelRun0_A.sl.r_19 (F := Ideal) c i arg2 harg2 arg3 harg3 arg6 harg6 arg9 harg9 D.x0 (up4 (φ := .fp8e4m3) fun _ => D.r) (up3 (φ := .f32) fun _ => D.rs) (up4 (φ := .bf16) fun _ => D.wl) = up (D.R i) := by
  rw [kernelRun0_A.sl.r_19]
  simp only [w_2, w_4, w14, w_15, w_16, w_17, pay39_up]
  try rfl

/-- The kernel's word 20. -/
theorem w_20 : kernelRun0_A.sl.r_20 (F := Ideal) c i arg2 harg2 arg9 harg9 arg10 harg10 D.x0 (up4 (φ := .bf16) fun _ => D.wl) (up4 (φ := .bf16) fun _ => D.kk) = up (D.A i) := by
  rw [kernelRun0_A.sl.r_20]
  simp only [w_6, w_9, w14, w_15, w_16, w_17, pay40_up]
  try rfl

/-- The kernel's word 21. -/
theorem w_21 : kernelRun0_A.sl.r_21 (F := Ideal) c i arg2 harg2 arg9 harg9 arg10 harg10 arg11 harg11 D.x0 (up4 (φ := .bf16) fun _ => D.wl) (up4 (φ := .bf16) fun _ => D.kk) (up4 (φ := .bf16) fun _ => D.ic) = up (D.Bn i) := by
  rw [kernelRun0_A.sl.r_21]
  simp only [w_1, w_6, w_7, w14, w_15, w_16, w_17, pay41_up]
  try rfl

/-- The kernel's word 22. -/
theorem w_22 : kernelRun0_A.sl.r_22 (F := Ideal) c i arg2 harg2 arg4 harg4 arg7 harg7 arg8 harg8 arg9 harg9 D.x0 (up4 (φ := .fp8e4m3) fun _ => D.k) (up3 (φ := .f32) fun _ => D.ks) (up3 (φ := .f32) fun _ => D.vs) (up4 (φ := .bf16) fun _ => D.wl) = up (D.Kn i) := by
  rw [kernelRun0_A.sl.r_22]
  simp only [w_3, w_5, w14, w_15, w_16, w_17, pay42_up]
  try rfl

/-- The kernel's word 23. -/
theorem w_23 : kernelRun0_A.sl.r_23 (F := Ideal) c i arg2 harg2 arg9 harg9 arg12 harg12 D.x0 (up4 (φ := .bf16) fun _ => D.wl) (up4 (φ := .f32) fun _ => D.s0) = up (D.Z0 i) := by
  rw [kernelRun0_A.sl.r_23]
  simp only [w14, w_15, w_16, w_17, ↓read4, ↓read3, ↓readS0, ↓readS1, pay44_up]
  try rfl

/-- The kernel's word 26. -/
theorem w_26 : kernelRun0_A.sl.r_26 (F := Ideal) c i arg2 harg2 arg9 harg9 arg10 harg10 arg11 harg11 D.x0 (up4 (φ := .bf16) fun _ => D.wl) (up4 (φ := .bf16) fun _ => D.kk) (up4 (φ := .bf16) fun _ => D.ic) = up (sub 0 0 (by norm_num) (D.Bn i)) := by
  rw [kernelRun0_A.sl.r_26]
  simp only [w_21, pay51_up]
  try rfl

/-- The kernel's word 27. -/
theorem w_27 : kernelRun0_A.sl.r_27 (F := Ideal) c i arg2 harg2 arg4 harg4 arg7 harg7 arg8 harg8 arg9 harg9 D.x0 (up4 (φ := .fp8e4m3) fun _ => D.k) (up3 (φ := .f32) fun _ => D.ks) (up3 (φ := .f32) fun _ => D.vs) (up4 (φ := .bf16) fun _ => D.wl) = up (sub 0 0 (by norm_num) (D.Kn i)) := by
  rw [kernelRun0_A.sl.r_27]
  simp only [w_22, pay52_up]
  try rfl

/-- The kernel's word 28. -/
theorem w_28 : kernelRun0_A.sl.r_28 (F := Ideal) c i arg2 harg2 arg4 harg4 arg7 harg7 arg8 harg8 arg9 harg9 arg10 harg10 arg11 harg11 arg12 harg12 D.x0 (up4 (φ := .fp8e4m3) fun _ => D.k) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cL (D.Z0 i) (sub 0 0 (by norm_num) (D.Bn i)) (sub 0 0 (by norm_num) (D.Kn i))) := by
  rw [kernelRun0_A.sl.r_28]
  simp only [w_21, w_22, w_23, pay58_up]
  try rfl

/-- The kernel's word 29. -/
theorem w_29 : kernelRun0_A.sl.r_29 (F := Ideal) c i arg2 harg2 arg4 harg4 arg7 harg7 arg8 harg8 arg9 harg9 arg10 harg10 arg11 harg11 arg12 harg12 D.x0 (up4 (φ := .fp8e4m3) fun _ => D.k) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_29]
  simp only [w_21, w_22, w_23, pay59_up]
  try rfl

/-- The kernel's word 30. -/
theorem w_30 : kernelRun0_A.sl.r_30 (F := Ideal) c i arg2 harg2 arg4 harg4 arg7 harg7 arg8 harg8 arg9 harg9 arg10 harg10 arg11 harg11 arg12 harg12 D.x0 (up4 (φ := .fp8e4m3) fun _ => D.k) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_30]
  simp only [w_21, w_22, w_23, pay60_up]
  try rfl

/-- The kernel's word 31. -/
theorem w_31 : kernelRun0_A.sl.r_31 (F := Ideal) c i arg2 harg2 arg3 harg3 arg6 harg6 arg9 harg9 arg10 harg10 D.x0 (up4 (φ := .fp8e4m3) fun _ => D.r) (up3 (φ := .f32) fun _ => D.rs) (up4 (φ := .bf16) fun _ => D.wl) (up4 (φ := .bf16) fun _ => D.kk) = up (cX (xA0 (D.R i) (D.A i)) (xB0 (D.R i) (D.A i))) := by
  rw [kernelRun0_A.sl.r_31]
  simp only [w_19, w_20, wlo, pay61_up]
  try rfl

/-- The kernel's word 32. -/
theorem w_32 : kernelRun0_A.sl.r_32 (F := Ideal) c i arg2 harg2 arg3 harg3 arg6 harg6 arg9 harg9 arg10 harg10 D.x0 (up4 (φ := .fp8e4m3) fun _ => D.r) (up3 (φ := .f32) fun _ => D.rs) (up4 (φ := .bf16) fun _ => D.wl) (up4 (φ := .bf16) fun _ => D.kk) = up 0 := by
  rw [kernelRun0_A.sl.r_32]
  simp only [w_19, w_20, wlo, pay62_up]
  try rfl

/-- The kernel's word 33. -/
theorem w_33 : kernelRun0_A.sl.r_33 (F := Ideal) c i arg2 harg2 arg3 harg3 arg6 harg6 arg9 harg9 arg10 harg10 D.x0 (up4 (φ := .fp8e4m3) fun _ => D.r) (up3 (φ := .f32) fun _ => D.rs) (up4 (φ := .bf16) fun _ => D.wl) (up4 (φ := .bf16) fun _ => D.kk) = up 0 := by
  rw [kernelRun0_A.sl.r_33]
  simp only [w_19, w_20, wlo, pay63_up]
  try rfl

/-- The kernel's word 34. -/
theorem w_34 : kernelRun0_A.sl.r_34 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (sub 0 0 (by norm_num) (cGA (D.Z0 i) (sub 0 0 (by norm_num) (D.Bn i)) (sub 0 0 (by norm_num) (D.Kn i)) (xA0 (D.R i) (D.A i)) (xB0 (D.R i) (D.A i)))) := by
  rw [kernelRun0_A.sl.r_34]
  simp only [w_28, w_29, w_30, w_31, w_32, w_33, pay67_up]
  try rfl

/-- The kernel's word 35. -/
theorem w_35 : kernelRun0_A.sl.r_35 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (sub 0 0 (by norm_num) (cGB (D.Z0 i) (sub 0 0 (by norm_num) (D.Bn i)) (sub 0 0 (by norm_num) (D.Kn i)) (xA0 (D.R i) (D.A i)) (xB0 (D.R i) (D.A i)))) := by
  rw [kernelRun0_A.sl.r_35]
  simp only [w_28, w_29, w_30, w_31, w_32, w_33, pay68_up]
  try rfl

/-- The kernel's word 36. -/
theorem w_36 : kernelRun0_A.sl.r_36 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cBA (D.Z0 i) (sub 0 0 (by norm_num) (D.Bn i)) (sub 0 0 (by norm_num) (D.Kn i)) (xA0 (D.R i) (D.A i)) (xB0 (D.R i) (D.A i))) := by
  rw [kernelRun0_A.sl.r_36]
  simp only [wA, w_28, w_29, w_30, w_31, w_32, w_33, pay69_up]
  try rfl

/-- The kernel's word 37. -/
theorem w_37 : kernelRun0_A.sl.r_37 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cBB (D.Z0 i) (sub 0 0 (by norm_num) (D.Bn i)) (sub 0 0 (by norm_num) (D.Kn i)) (xA0 (D.R i) (D.A i)) (xB0 (D.R i) (D.A i))) := by
  rw [kernelRun0_A.sl.r_37]
  simp only [wB, w_28, w_29, w_30, w_31, w_32, w_33, pay70_up]
  try rfl

/-- The kernel's word 38. -/
theorem w_38 : kernelRun0_A.sl.r_38 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cVA (D.Z0 i) (sub 0 0 (by norm_num) (D.Bn i)) (sub 0 0 (by norm_num) (D.Kn i)) (xA0 (D.R i) (D.A i)) (xB0 (D.R i) (D.A i)) (sub 0 0 (by norm_num) (D.v 0))) := by
  rw [kernelRun0_A.sl.r_38]
  simp only [w_8, wA, w_27, w_28, w_29, w_30, w_31, w_32, w_33, pay71_up]
  try rfl

/-- The kernel's word 39. -/
theorem w_39 : kernelRun0_A.sl.r_39 (F := Ideal) c arg5 harg5 (up4 (φ := .fp8e4m3) fun _ => D.v) = cat3 (t := S64x192) 1 concatenates_S64x64_S64x64_S64x64_S64x192_d1 (up (sub 0 0 (by norm_num) (D.v 1)) : FVec Ideal S64x64 .bf16) (up (sub 0 0 (by norm_num) (D.v 1)) : FVec Ideal S64x64 .bf16) (up (sub 0 0 (by norm_num) (D.v 1)) : FVec Ideal S64x64 .bf16) := by
  rw [kernelRun0_A.sl.r_39]
  simp only [w_8, pay73_up]
  try rfl

/-- The kernel's word 40. -/
theorem w_40 : kernelRun0_A.sl.r_40 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cKB (D.Z0 i) (sub 0 0 (by norm_num) (D.Bn i)) (sub 0 0 (by norm_num) (D.Kn i)) (xA0 (D.R i) (D.A i)) (xB0 (D.R i) (D.A i))) := by
  rw [kernelRun0_A.sl.r_40]
  simp only [wB, w_27, w_28, w_29, w_30, w_31, w_32, w_33, pay74_up]
  try rfl

/-- The kernel's word 41. -/
theorem w_41 : kernelRun0_A.sl.r_41 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_41]
  simp only [wB, w_27, w_28, w_29, w_30, w_31, w_32, w_33, pay76_up]
  try rfl

/-- The kernel's word 42. -/
theorem w_42 : kernelRun0_A.sl.r_42 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_42]
  simp only [wB, w_27, w_28, w_29, w_30, w_31, w_32, w_33, pay77_up]
  try rfl

/-- The kernel's word 43. -/
theorem w_43 : kernelRun0_A.sl.r_43 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cSV (D.Z0 i) (sub 0 0 (by norm_num) (D.Bn i)) (sub 0 0 (by norm_num) (D.Kn i)) (xA0 (D.R i) (D.A i)) (xB0 (D.R i) (D.A i)) (sub 0 0 (by norm_num) (D.v 0)) (sub 0 0 (by norm_num) (D.v 1))) := by
  rw [kernelRun0_A.sl.r_43]
  simp only [w_38, w_39, w_40, w_41, w_42, wlo, pay81_up]
  try rfl

/-- The kernel's word 44. -/
theorem w_44 : kernelRun0_A.sl.r_44 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cY0 (D.Z0 i) (sub 0 0 (by norm_num) (D.Bn i)) (sub 0 0 (by norm_num) (D.Kn i)) (xA0 (D.R i) (D.A i)) (xB0 (D.R i) (D.A i)) (sub 0 0 (by norm_num) (D.v 0)) (sub 0 0 (by norm_num) (D.v 1))) := by
  rw [kernelRun0_A.sl.r_44]
  simp only [w_34, w_35, w_38, w_39, w_40, w_41, w_42, wlo, pay82_up]
  try rfl

/-- The kernel's word 45. -/
theorem w_45 : kernelRun0_A.sl.r_45 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cW (D.Z0 i) (sub 0 0 (by norm_num) (D.Bn i)) (sub 0 0 (by norm_num) (D.Kn i)) (xA0 (D.R i) (D.A i)) (xB0 (D.R i) (D.A i)) (sub 0 0 (by norm_num) (D.v 0)) (sub 0 0 (by norm_num) (D.v 1))) := by
  rw [kernelRun0_A.sl.r_45]
  simp only [w_34, w_35, w_38, w_39, w_40, w_41, w_42, wlo, pay83_up]
  try rfl

/-- The kernel's word 46. -/
theorem w_46 : kernelRun0_A.sl.r_46 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (1 + (cN (D.Z0 i) (sub 0 0 (by norm_num) (D.Bn i)) (sub 0 0 (by norm_num) (D.Kn i)) (xA0 (D.R i) (D.A i)) (xB0 (D.R i) (D.A i)))) := by
  rw [kernelRun0_A.sl.r_46]
  simp only [w_36, w_37, wlo, pay86_up]
  try rfl

/-- The kernel's word 47. -/
theorem w_47 : kernelRun0_A.sl.r_47 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) := by
  rw [kernelRun0_A.sl.r_47]
  simp only [w_36, w_37, wlo, pay87_up]
  try rfl

/-- The kernel's word 48. -/
theorem w_48 : kernelRun0_A.sl.r_48 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (1 + (cN (D.Z0 i) (sub 0 0 (by norm_num) (D.Bn i)) (sub 0 0 (by norm_num) (D.Kn i)) (xA0 (D.R i) (D.A i)) (xB0 (D.R i) (D.A i)))) := by
  rw [kernelRun0_A.sl.r_48]
  simp only [w_36, w_37, wlo, pay88_up]
  try rfl

/-- The kernel's word 49. -/
theorem w_49 : kernelRun0_A.sl.r_49 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_49]
  simp only [w_36, w_37, wlo, pay90_up]
  try rfl

/-- The kernel's word 50. -/
theorem w_50 : kernelRun0_A.sl.r_50 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_50]
  simp only [w_36, w_37, wlo, pay91_up]
  try rfl

/-- The kernel's word 51. -/
theorem w_51 : kernelRun0_A.sl.r_51 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) := by
  rw [kernelRun0_A.sl.r_51]
  simp only [w_46, w_47, w_48, w_49, w_50, pay92_up]
  try rfl

/-- The kernel's word 52. -/
theorem w_52 : kernelRun0_A.sl.r_52 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) := by
  rw [kernelRun0_A.sl.r_52]
  simp only [w_47, pay93_up]
  try rfl

/-- The kernel's word 53. -/
theorem w_53 : kernelRun0_A.sl.r_53 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) := by
  rw [kernelRun0_A.sl.r_53]
  simp only [w_46, w_47, w_48, w_49, w_50, pay97_up]
  try rfl

/-- The kernel's word 54. -/
theorem w_54 : kernelRun0_A.sl.r_54 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_54]
  simp only [w_46, w_47, w_48, w_49, w_50, pay98_up]
  try rfl

/-- The kernel's word 55. -/
theorem w_55 : kernelRun0_A.sl.r_55 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_55]
  simp only [w_46, w_47, w_48, w_49, w_50, pay99_up]
  try rfl

/-- The kernel's word 56. -/
theorem w_56 : kernelRun0_A.sl.r_56 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) := by
  rw [kernelRun0_A.sl.r_56]
  simp only [w_47, pay100_up]
  try rfl

/-- The kernel's word 57. -/
theorem w_57 : kernelRun0_A.sl.r_57 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_57]
  simp only [w_47, pay101_up]
  try rfl

/-- The kernel's word 58. -/
theorem w_58 : kernelRun0_A.sl.r_58 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) + ((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) := by
  rw [kernelRun0_A.sl.r_58]
  simp only [w_51, w_53, w_54, w_55, w_56, w_57, pay102_up]
  try rfl

/-- The kernel's word 59. -/
theorem w_59 : kernelRun0_A.sl.r_59 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) := by
  rw [kernelRun0_A.sl.r_59]
  simp only [w_52, pay103_up]
  try rfl

/-- The kernel's word 60. -/
theorem w_60 : kernelRun0_A.sl.r_60 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) + ((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) := by
  rw [kernelRun0_A.sl.r_60]
  simp only [w_51, w_53, w_54, w_55, w_56, w_57, pay107_up]
  try rfl

/-- The kernel's word 61. -/
theorem w_61 : kernelRun0_A.sl.r_61 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_61]
  simp only [w_51, w_53, w_54, w_55, w_56, w_57, pay108_up]
  try rfl

/-- The kernel's word 62. -/
theorem w_62 : kernelRun0_A.sl.r_62 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_62]
  simp only [w_51, w_53, w_54, w_55, w_56, w_57, pay109_up]
  try rfl

/-- The kernel's word 63. -/
theorem w_63 : kernelRun0_A.sl.r_63 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) := by
  rw [kernelRun0_A.sl.r_63]
  simp only [w_52, pay113_up]
  try rfl

/-- The kernel's word 64. -/
theorem w_64 : kernelRun0_A.sl.r_64 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_64]
  simp only [w_52, pay114_up]
  try rfl

/-- The kernel's word 65. -/
theorem w_65 : kernelRun0_A.sl.r_65 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_65]
  simp only [w_52, pay115_up]
  try rfl

/-- The kernel's word 66. -/
theorem w_66 : kernelRun0_A.sl.r_66 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) * ((((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))))) := by
  rw [kernelRun0_A.sl.r_66]
  simp only [w_59, pay116_up]
  try rfl

/-- The kernel's word 67. -/
theorem w_67 : kernelRun0_A.sl.r_67 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) + ((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) + (((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) + ((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) * ((((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))))) + ((((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) + ((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) + (((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) + ((1 + (cN (D.Z0 i) (sub 0 0 (by norm_num) (D.Bn i)) (sub 0 0 (by norm_num) (D.Kn i)) (xA0 (D.R i) (D.A i)) (xB0 (D.R i) (D.A i)))) + (1 + (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) * ((((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))))) * (((((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))) * ((((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i))))) * (((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))) * ((cN (D.Z0 i) (sub 0 0 (by norm_num) (D.Bn i)) (sub 0 0 (by norm_num) (D.Kn i)) (xA0 (D.R i) (D.A i)) (xB0 (D.R i) (D.A i))) * (cN (D.Z0 i) (sub 0 0 (by norm_num) (D.Bn i)) (sub 0 0 (by norm_num) (D.Kn i)) (xA0 (D.R i) (D.A i)) (xB0 (D.R i) (D.A i)))))))) := by
  rw [kernelRun0_A.sl.r_67]
  simp only [w_58, w_59, w_60, w_61, w_62, w_63, w_64, w_65, pay117_up]
  try rfl

/-- The kernel's word 68. -/
theorem w_68 : kernelRun0_A.sl.r_68 (F := Ideal) c i arg2 harg2 arg3 harg3 arg4 harg4 arg6 harg6 arg7 harg7 arg8 harg8 arg9 harg9 arg10 harg10 arg11 harg11 arg12 harg12 D.x0 (up4 (φ := .fp8e4m3) fun _ => D.r) (up4 (φ := .fp8e4m3) fun _ => D.k) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (dbl (cN (D.Z0 i) (sub 0 0 (by norm_num) (D.Bn i)) (sub 0 0 (by norm_num) (D.Kn i)) (xA0 (D.R i) (D.A i)) (xB0 (D.R i) (D.A i)))) := by
  rw [kernelRun0_A.sl.r_68]
  simp only [w_66, w_67, pay118_up]
  try rfl

/-- The kernel's word 69. -/
theorem w_69 : kernelRun0_A.sl.r_69 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_69]
  simp only [w_45, pay121_up]
  try rfl

/-- The kernel's word 70. -/
theorem w_70 : kernelRun0_A.sl.r_70 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_70]
  simp only [w_45, pay122_up]
  try rfl

/-- The kernel's word 71. -/
theorem w_71 : kernelRun0_A.sl.r_71 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cW (D.Z0 i) (sub 0 0 (by norm_num) (D.Bn i)) (sub 0 0 (by norm_num) (D.Kn i)) (xA0 (D.R i) (D.A i)) (xB0 (D.R i) (D.A i)) (sub 0 0 (by norm_num) (D.v 0)) (sub 0 0 (by norm_num) (D.v 1))) := by
  rw [kernelRun0_A.sl.r_71]
  simp only [w_45, pay123_up]
  try rfl

/-- The kernel's word 72. -/
theorem w_72 : kernelRun0_A.sl.r_72 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (D.Y0 i) := by
  rw [kernelRun0_A.sl.r_72]
  simp only [w_26, w_36, w_37, w_44, w_68, w_69, w_70, w_71, wlo, pay84_up, pay125_up]
  try rfl

/-- The kernel's word 73. -/
theorem w_73 : kernelRun0_A.sl.r_73 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (D.Z1 i) := by
  rw [kernelRun0_A.sl.r_73]
  simp only [w_18, w_23, w_26, w_36, w_37, w_43, w_68, w_69, w_70, w_71, wlo, pay84_up, pay126_up]
  try rfl

end Cert.WKV
-- ==== Proof.Words1.lean ====
module

public import proofs.«01_k».proof.Proof.Words0

/-! The kernel's intermediate values of the second chunk. -/

@[expose] public section

set_option maxRecDepth 16384

noncomputable section

namespace Cert.WKV

open Idealize.ShloMosaic Cert.KernelIdeal Cert.KernelIdeal.Gen

variable (D : Ins) (c : Dev nD) (i : grid0.Coords) (arg2 : Memref sig .tc .smem S2 .i32) (harg2 : arg2.IsWhole) (arg3 : Memref sig .tc .vmem S1x2x64x128 .fp8e4m3) (harg3 : arg3.IsWhole) (arg4 : Memref sig .tc .vmem S1x2x64x128 .fp8e4m3) (harg4 : arg4.IsWhole) (arg5 : Memref sig .tc .vmem S1x2x64x128 .fp8e4m3) (harg5 : arg5.IsWhole) (arg6 : Memref sig .tc .vmem S1x40x128 .f32) (harg6 : arg6.IsWhole) (arg7 : Memref sig .tc .vmem S1x40x128 .f32) (harg7 : arg7.IsWhole) (arg8 : Memref sig .tc .vmem S1x40x128 .f32) (harg8 : arg8.IsWhole) (arg9 : Memref sig .tc .vmem S1x2x64x128 .bf16) (harg9 : arg9.IsWhole) (arg10 : Memref sig .tc .vmem S1x2x64x128 .bf16) (harg10 : arg10.IsWhole) (arg11 : Memref sig .tc .vmem S1x2x64x128 .bf16) (harg11 : arg11.IsWhole) (arg12 : Memref sig .tc .vmem S1x2x64x64 .f32) (harg12 : arg12.IsWhole)

/-- The kernel's word 74. -/
theorem w_74 : kernelRun0_A.sl.r_74 (F := Ideal) c i arg2 harg2 arg9 harg9 arg10 harg10 arg11 harg11 D.x0 (up4 (φ := .bf16) fun _ => D.wl) (up4 (φ := .bf16) fun _ => D.kk) (up4 (φ := .bf16) fun _ => D.ic) = up (sub 64 0 (by norm_num) (D.Bn i)) := by
  rw [kernelRun0_A.sl.r_74]
  simp only [w_21, pay127_up]
  try rfl

/-- The kernel's word 75. -/
theorem w_75 : kernelRun0_A.sl.r_75 (F := Ideal) c i arg2 harg2 arg4 harg4 arg7 harg7 arg8 harg8 arg9 harg9 D.x0 (up4 (φ := .fp8e4m3) fun _ => D.k) (up3 (φ := .f32) fun _ => D.ks) (up3 (φ := .f32) fun _ => D.vs) (up4 (φ := .bf16) fun _ => D.wl) = up (sub 64 0 (by norm_num) (D.Kn i)) := by
  rw [kernelRun0_A.sl.r_75]
  simp only [w_22, pay128_up]
  try rfl

/-- The kernel's word 76. -/
theorem w_76 : kernelRun0_A.sl.r_76 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cGB (D.Z1 i) (sub 64 0 (by norm_num) (D.Bn i)) (sub 64 0 (by norm_num) (D.Kn i)) (xA1 (D.R i) (D.A i)) (xB1 (D.R i) (D.A i))) := by
  rw [kernelRun0_A.sl.r_76]
  simp only [w_19, w_20, w_21, w_22, w_73, wlo, pay131_up]
  try rfl

/-- The kernel's word 77. -/
theorem w_77 : kernelRun0_A.sl.r_77 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (sub 0 0 (by norm_num) (cGA (D.Z1 i) (sub 64 0 (by norm_num) (D.Bn i)) (sub 64 0 (by norm_num) (D.Kn i)) (xA1 (D.R i) (D.A i)) (xB1 (D.R i) (D.A i)))) := by
  rw [kernelRun0_A.sl.r_77]
  simp only [w_19, w_20, w_21, w_22, w_73, wlo, pay132_up]
  try rfl

/-- The kernel's word 78. -/
theorem w_78 : kernelRun0_A.sl.r_78 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (sub 0 0 (by norm_num) (cGB (D.Z1 i) (sub 64 0 (by norm_num) (D.Bn i)) (sub 64 0 (by norm_num) (D.Kn i)) (xA1 (D.R i) (D.A i)) (xB1 (D.R i) (D.A i)))) := by
  rw [kernelRun0_A.sl.r_78]
  simp only [w_19, w_20, w_21, w_22, w_73, wlo, pay133_up]
  try rfl

/-- The kernel's word 79. -/
theorem w_79 : kernelRun0_A.sl.r_79 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cBA (D.Z1 i) (sub 64 0 (by norm_num) (D.Bn i)) (sub 64 0 (by norm_num) (D.Kn i)) (xA1 (D.R i) (D.A i)) (xB1 (D.R i) (D.A i))) := by
  rw [kernelRun0_A.sl.r_79]
  simp only [w_19, w_20, w_21, w_22, wA, w_73, wlo, pay134_up]
  try rfl

/-- The kernel's word 80. -/
theorem w_80 : kernelRun0_A.sl.r_80 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cBB (D.Z1 i) (sub 64 0 (by norm_num) (D.Bn i)) (sub 64 0 (by norm_num) (D.Kn i)) (xA1 (D.R i) (D.A i)) (xB1 (D.R i) (D.A i))) := by
  rw [kernelRun0_A.sl.r_80]
  simp only [w_19, w_20, w_21, w_22, wB, w_73, wlo, pay135_up]
  try rfl

/-- The kernel's word 81. -/
theorem w_81 : kernelRun0_A.sl.r_81 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (pick mA (sub 128 0 (by norm_num) (cGA (D.Z1 i) (sub 64 0 (by norm_num) (D.Bn i)) (sub 64 0 (by norm_num) (D.Kn i)) (xA1 (D.R i) (D.A i)) (xB1 (D.R i) (D.A i)))) 0) := by
  rw [kernelRun0_A.sl.r_81]
  simp only [w_19, w_20, w_21, w_22, wA, w_73, wlo, pay136_up]
  try rfl

/-- The kernel's word 82. -/
theorem w_82 : kernelRun0_A.sl.r_82 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cSV (D.Z1 i) (sub 64 0 (by norm_num) (D.Bn i)) (sub 64 0 (by norm_num) (D.Kn i)) (xA1 (D.R i) (D.A i)) (xB1 (D.R i) (D.A i)) (sub 0 64 (by norm_num) (D.v 0)) (sub 0 64 (by norm_num) (D.v 1))) := by
  rw [kernelRun0_A.sl.r_82]
  simp only [w_8, wB, w_75, w_76, w_81, wlo, pay141_up]
  try rfl

/-- The kernel's word 83. -/
theorem w_83 : kernelRun0_A.sl.r_83 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cY0 (D.Z1 i) (sub 64 0 (by norm_num) (D.Bn i)) (sub 64 0 (by norm_num) (D.Kn i)) (xA1 (D.R i) (D.A i)) (xB1 (D.R i) (D.A i)) (sub 0 64 (by norm_num) (D.v 0)) (sub 0 64 (by norm_num) (D.v 1))) := by
  rw [kernelRun0_A.sl.r_83]
  simp only [w_8, wB, w_75, w_76, w_77, w_78, w_81, wlo, pay142_up]
  try rfl

/-- The kernel's word 84. -/
theorem w_84 : kernelRun0_A.sl.r_84 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cW (D.Z1 i) (sub 64 0 (by norm_num) (D.Bn i)) (sub 64 0 (by norm_num) (D.Kn i)) (xA1 (D.R i) (D.A i)) (xB1 (D.R i) (D.A i)) (sub 0 64 (by norm_num) (D.v 0)) (sub 0 64 (by norm_num) (D.v 1))) := by
  rw [kernelRun0_A.sl.r_84]
  simp only [w_8, wB, w_75, w_76, w_77, w_78, w_81, wlo, pay143_up]
  try rfl

/-- The kernel's word 85. -/
theorem w_85 : kernelRun0_A.sl.r_85 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cN (D.Z1 i) (sub 64 0 (by norm_num) (D.Bn i)) (sub 64 0 (by norm_num) (D.Kn i)) (xA1 (D.R i) (D.A i)) (xB1 (D.R i) (D.A i))) := by
  rw [kernelRun0_A.sl.r_85]
  simp only [w_79, w_80, wlo, pay145_up]
  try rfl

/-- The kernel's word 86. -/
theorem w_86 : kernelRun0_A.sl.r_86 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) := by
  rw [kernelRun0_A.sl.r_86]
  simp only [w_85, pay147_up]
  try rfl

/-- The kernel's word 87. -/
theorem w_87 : kernelRun0_A.sl.r_87 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) := by
  rw [kernelRun0_A.sl.r_87]
  simp only [w_85, pay148_up]
  try rfl

/-- The kernel's word 88. -/
theorem w_88 : kernelRun0_A.sl.r_88 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) := by
  rw [kernelRun0_A.sl.r_88]
  simp only [w_85, pay149_up]
  try rfl

/-- The kernel's word 89. -/
theorem w_89 : kernelRun0_A.sl.r_89 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_89]
  simp only [w_85, pay150_up]
  try rfl

/-- The kernel's word 90. -/
theorem w_90 : kernelRun0_A.sl.r_90 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) := by
  rw [kernelRun0_A.sl.r_90]
  simp only [w_86, w_88, w_89, pay151_up]
  try rfl

/-- The kernel's word 91. -/
theorem w_91 : kernelRun0_A.sl.r_91 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) + ((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) := by
  rw [kernelRun0_A.sl.r_91]
  simp only [w_86, w_87, w_88, w_89, pay152_up]
  try rfl

/-- The kernel's word 92. -/
theorem w_92 : kernelRun0_A.sl.r_92 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) := by
  rw [kernelRun0_A.sl.r_92]
  simp only [w_86, w_88, w_89, pay156_up]
  try rfl

/-- The kernel's word 93. -/
theorem w_93 : kernelRun0_A.sl.r_93 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_93]
  simp only [w_86, w_88, w_89, pay157_up]
  try rfl

/-- The kernel's word 94. -/
theorem w_94 : kernelRun0_A.sl.r_94 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_94]
  simp only [w_86, w_88, w_89, pay158_up]
  try rfl

/-- The kernel's word 95. -/
theorem w_95 : kernelRun0_A.sl.r_95 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) + ((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) + (((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) + ((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) * ((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))))) := by
  rw [kernelRun0_A.sl.r_95]
  simp only [w_90, w_91, w_92, w_93, w_94, pay160_up]
  try rfl

/-- The kernel's word 96. -/
theorem w_96 : kernelRun0_A.sl.r_96 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) := by
  rw [kernelRun0_A.sl.r_96]
  simp only [w_90, w_92, w_93, w_94, pay164_up]
  try rfl

/-- The kernel's word 97. -/
theorem w_97 : kernelRun0_A.sl.r_97 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_97]
  simp only [w_90, w_92, w_93, w_94, pay165_up]
  try rfl

/-- The kernel's word 98. -/
theorem w_98 : kernelRun0_A.sl.r_98 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_98]
  simp only [w_90, w_92, w_93, w_94, pay166_up]
  try rfl

/-- The kernel's word 99. -/
theorem w_99 : kernelRun0_A.sl.r_99 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) := by
  rw [kernelRun0_A.sl.r_99]
  simp only [w_90, w_92, w_93, w_94, pay167_up]
  try rfl

/-- The kernel's word 100. -/
theorem w_100 : kernelRun0_A.sl.r_100 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_100]
  simp only [w_90, w_92, w_93, w_94, pay169_up]
  try rfl

/-- The kernel's word 101. -/
theorem w_101 : kernelRun0_A.sl.r_101 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up 0 := by
  rw [kernelRun0_A.sl.r_101]
  simp only [w_90, w_92, w_93, w_94, pay170_up]
  try rfl

/-- The kernel's word 102. -/
theorem w_102 : kernelRun0_A.sl.r_102 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (((((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) + ((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) + (((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) + ((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) * ((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))))) + ((((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) + ((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) + (((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) + ((1 + (cN (D.Z1 i) (sub 64 0 (by norm_num) (D.Bn i)) (sub 64 0 (by norm_num) (D.Kn i)) (xA1 (D.R i) (D.A i)) (xB1 (D.R i) (D.A i)))) + (1 + (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) * ((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))))) * (((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) * ((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))))) := by
  rw [kernelRun0_A.sl.r_102]
  simp only [w_95, w_96, w_97, w_98, w_99, w_100, w_101, pay172_up]
  try rfl

/-- The kernel's word 103. -/
theorem w_103 : kernelRun0_A.sl.r_103 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up ((((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) * ((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))))) * (((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))) * ((((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i))))) * (((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))) * ((cN (D.Z1 i) (sub 64 0 (by norm_num) (D.Bn i)) (sub 64 0 (by norm_num) (D.Kn i)) (xA1 (D.R i) (D.A i)) (xB1 (D.R i) (D.A i))) * (cN (D.Z1 i) (sub 64 0 (by norm_num) (D.Bn i)) (sub 64 0 (by norm_num) (D.Kn i)) (xA1 (D.R i) (D.A i)) (xB1 (D.R i) (D.A i)))))))) := by
  rw [kernelRun0_A.sl.r_103]
  simp only [w_96, w_97, w_98, w_99, w_100, w_101, pay173_up]
  try rfl

/-- The kernel's word 104. -/
theorem w_104 : kernelRun0_A.sl.r_104 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cU (D.Z1 i) (sub 64 0 (by norm_num) (D.Bn i)) (sub 64 0 (by norm_num) (D.Kn i)) (xA1 (D.R i) (D.A i)) (xB1 (D.R i) (D.A i)) (sub 0 64 (by norm_num) (D.v 0)) (sub 0 64 (by norm_num) (D.v 1))) := by
  rw [kernelRun0_A.sl.r_104]
  simp only [w_84, w_102, w_103, pay174_up]
  try rfl

/-- The kernel's word 105. -/
theorem w_105 : kernelRun0_A.sl.r_105 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (cXX (D.Z1 i) (sub 64 0 (by norm_num) (D.Bn i)) (sub 64 0 (by norm_num) (D.Kn i)) (xA1 (D.R i) (D.A i)) (xB1 (D.R i) (D.A i))) := by
  rw [kernelRun0_A.sl.r_105]
  simp only [w_74, w_79, w_80, wlo, pay175_up]
  try rfl

/-- The kernel's word 106. -/
theorem w_106 : kernelRun0_A.sl.r_106 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (D.SF i) := by
  rw [kernelRun0_A.sl.r_106]
  simp only [w_18, w_73, w_82, w_104, w_105, pay178_up]
  try rfl

/-- The kernel's word 107. -/
theorem w_107 : kernelRun0_A.sl.r_107 (F := Ideal) c i arg2 harg2 arg3 harg3 arg4 harg4 arg5 harg5 arg6 harg6 arg7 harg7 arg8 harg8 arg9 harg9 arg10 harg10 arg11 harg11 arg12 harg12 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = up (sub 0 0 (by norm_num) (D.SF i)) := by
  rw [kernelRun0_A.sl.r_107]
  simp only [w_18, w_73, w_82, w_104, w_105, pay181_up]
  try rfl

end Cert.WKV
-- ==== Proof.Out.lean ====
module

public import proofs.«01_k».proof.Proof.Words1
public import Idealize.ShloMosaic.Lib.Pipeline.ValueKit

/-! What the kernel leaves in its two output blocks. -/

@[expose] public section

set_option maxRecDepth 16384

noncomputable section

namespace Cert.WKV

open Idealize.ShloMosaic Cert.KernelIdeal Cert.KernelIdeal.Gen

/-- A head's output. -/
def Ins.Y (D : Ins) (i : grid0.Coords) (h : Fin 2) : Matrix (Fin 64) (Fin 128) ℝ :=
  if h = 0 then pick lo (D.Y0 i) (swap (D.Y1 i)) else pick lo (swap (D.Y0 i)) (D.Y1 i)

/-- A head's final state. -/
def Ins.S (D : Ins) (i : grid0.Coords) (h : Fin 2) : Matrix (Fin 64) (Fin 64) ℝ :=
  if h = 0 then sub 0 0 (by norm_num) (D.SF i) else sub 0 64 (by norm_num) (D.SF i)

/-- One head's slab of the output block. -/
theorem put_y (M : Matrix (Fin 64) (Fin 128) ℝ) (h1) :
    shapeCast S1x1x64x128 (up M : FVec Ideal S64x128 .bf16) h1 = up4 fun _ _ => M := by
  funext y
  idx_vars y
  pointwise []
  rfl

/-- One head's slab of the state block. -/
theorem put_s (M : Matrix (Fin 64) (Fin 64) ℝ) (h1) :
    shapeCast S1x1x64x64 (up M : FVec Ideal S64x64 .f32) h1 = up4 fun _ _ => M := by
  funext y
  idx_vars y
  pointwise []
  rfl

/-- An entry of a head's slab of an output block. -/
theorem up4_emb {n : ℕ} (V : Fin 2 → Matrix (Fin 64) (Fin n) ℝ) (h : ℕ) (hh : h < 2) (φ : FTy)
    (inb : ∀ a, (![0, h, 0, 0] : Fin 4 → ℕ) a + (![1, 1, 64, n] : Fin 4 → ℕ) a ≤ (⟨4, ![1, 2, 64, n]⟩ : Shape).size a)
    (x : (⟨4, ![1, 1, 64, n]⟩ : Shape).Idx) :
    up4 (φ := φ) (fun _ : Fin 1 => V) ((Rect.unit (s := ⟨4, ![1, 2, 64, n]⟩) ![0, h, 0, 0] ![1, 1, 64, n] inb).emb x)
      = ((V ⟨h, hh⟩ (x 2) (x 3) : ℝ) : EReal) := by
  have h1 : (x 1).1 = 0 := by have : (x 1).1 < 1 := (x 1).2; omega
  have e1 : ((Rect.unit (s := ⟨4, ![1, 2, 64, n]⟩) ![0, h, 0, 0] ![1, 1, 64, n] inb).emb x 1) = (⟨h, hh⟩ : Fin 2) :=
    Fin.ext (by show h + 1 * (x 1).1 = h; omega)
  have e2 : ((Rect.unit (s := ⟨4, ![1, 2, 64, n]⟩) ![0, h, 0, 0] ![1, 1, 64, n] inb).emb x 2) = (x 2 : Fin 64) :=
    Fin.ext (by show 0 + 1 * (x 2).1 = (x 2).1; omega)
  have e3 : ((Rect.unit (s := ⟨4, ![1, 2, 64, n]⟩) ![0, h, 0, 0] ![1, 1, 64, n] inb).emb x 3) = (x 3 : Fin n) :=
    Fin.ext (by show 0 + 1 * (x 3).1 = (x 3).1; omega)
  show ((V ((Rect.unit (s := ⟨4, ![1, 2, 64, n]⟩) ![0, h, 0, 0] ![1, 1, 64, n] inb).emb x 1) ((Rect.unit (s := ⟨4, ![1, 2, 64, n]⟩) ![0, h, 0, 0] ![1, 1, 64, n] inb).emb x 2) ((Rect.unit (s := ⟨4, ![1, 2, 64, n]⟩) ![0, h, 0, 0] ![1, 1, 64, n] inb).emb x 3) : ℝ) : EReal) = _
  rw [e1, e2, e3]

/-- The first head's final state, as stored. -/
theorem pay1_up (M : Matrix (Fin 64) (Fin 64) ℝ) : k0_pay1 (F := Ideal) (up M) = up4 fun _ _ => M := by
  rw [k0_pay1, put_s]

/-- The second head's final state, as stored. -/
theorem pay2_up (M : Matrix (Fin 64) (Fin 128) ℝ) : k0_pay2 (F := Ideal) (up M) = up4 fun _ _ => sub 0 64 (by norm_num) M := by
  rw [k0_pay2, cut_64_128_64_64_0_64, put_s]

variable (D : Ins) (c : Dev nD) (i : grid0.Coords) (arg2 : Memref sig .tc .smem S2 .i32) (harg2 : arg2.IsWhole) (arg3 : Memref sig .tc .vmem S1x2x64x128 .fp8e4m3) (harg3 : arg3.IsWhole) (arg4 : Memref sig .tc .vmem S1x2x64x128 .fp8e4m3) (harg4 : arg4.IsWhole) (arg5 : Memref sig .tc .vmem S1x2x64x128 .fp8e4m3) (harg5 : arg5.IsWhole) (arg6 : Memref sig .tc .vmem S1x40x128 .f32) (harg6 : arg6.IsWhole) (arg7 : Memref sig .tc .vmem S1x40x128 .f32) (harg7 : arg7.IsWhole) (arg8 : Memref sig .tc .vmem S1x40x128 .f32) (harg8 : arg8.IsWhole) (arg9 : Memref sig .tc .vmem S1x2x64x128 .bf16) (harg9 : arg9.IsWhole) (arg10 : Memref sig .tc .vmem S1x2x64x128 .bf16) (harg10 : arg10.IsWhole) (arg11 : Memref sig .tc .vmem S1x2x64x128 .bf16) (harg11 : arg11.IsWhole) (arg12 : Memref sig .tc .vmem S1x2x64x64 .f32) (harg12 : arg12.IsWhole) (arg13 : Memref sig .tc .vmem S1x2x64x128 .bf16) (harg13 : arg13.IsWhole) (arg14 : Memref sig .tc .vmem S1x2x64x64 .f32) (harg14 : arg14.IsWhole)

/-- The output block. -/
theorem out11 : out0_A_11 (F := Ideal) c i arg2 harg2 arg3 harg3 arg4 harg4 arg5 harg5 arg6 harg6 arg7 harg7 arg8 harg8 arg9 harg9 arg10 harg10 arg11 harg11 arg12 harg12 arg13 harg13 arg14 harg14 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = (up4 fun _ => D.Y i : FVec Ideal S1x2x64x128 .bf16) := by
  funext y
  unfold out0_A_11
  rw [View.read_writes_junk_eq_canon]
  refine View.canon_eq_of_allAt _ y _ (cover0_A_11 c i arg2 harg2 arg3 harg3 arg4 harg4 arg5 harg5 arg6 harg6 arg7 harg7 arg8 harg8 arg9 harg9 arg10 harg10 arg11 harg11 arg12 harg12 arg13 harg13 arg14 harg14 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) y) ?_
  intro p hp x hx
  unfold kernelRun0_A at hp
  dsimp only at hp
  rcases List.mem_cons.mp hp with rfl | hp
  · subst hx
    rw [wlo, w_72, w_83, w_104, w_105, pay180_up, put_y]
    exact (up4_emb (D.Y i) 1 (by norm_num) .bf16 (by decide) x).symm
  · obtain rfl := List.mem_singleton.mp hp
    subst hx
    rw [wlo, w_72, w_83, w_104, w_105, pay179_up, put_y]
    exact (up4_emb (D.Y i) 0 (by norm_num) .bf16 (by decide) x).symm

/-- The state block. -/
theorem out12 : out0_A_12 (F := Ideal) c i arg2 harg2 arg3 harg3 arg4 harg4 arg5 harg5 arg6 harg6 arg7 harg7 arg8 harg8 arg9 harg9 arg10 harg10 arg11 harg11 arg12 harg12 arg13 harg13 arg14 harg14 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) = (up4 fun _ => D.S i : FVec Ideal S1x2x64x64 .f32) := by
  funext y
  unfold out0_A_12
  rw [View.read_writes_junk_eq_canon]
  refine View.canon_eq_of_allAt _ y _ (cover0_A_12 c i arg2 harg2 arg3 harg3 arg4 harg4 arg5 harg5 arg6 harg6 arg7 harg7 arg8 harg8 arg9 harg9 arg10 harg10 arg11 harg11 arg12 harg12 arg13 harg13 arg14 harg14 D.x0 (up4 (φ := .fp8e4m3) fun _ => D.r) (up4 (φ := .fp8e4m3) fun _ => D.k) (up4 (φ := .fp8e4m3) fun _ => D.v) (up3 (φ := .f32) fun _ => D.rs) (up3 (φ := .f32) fun _ => D.ks) (up3 (φ := .f32) fun _ => D.vs) (up4 (φ := .bf16) fun _ => D.wl) (up4 (φ := .bf16) fun _ => D.kk) (up4 (φ := .bf16) fun _ => D.ic) (up4 (φ := .f32) fun _ => D.s0) y) ?_
  intro p hp x hx
  unfold kernelRun0_A at hp
  dsimp only at hp
  rcases List.mem_cons.mp hp with rfl | hp
  · subst hx
    rw [w_106, pay2_up]
    exact (up4_emb (D.S i) 1 (by norm_num) .f32 (by decide) x).symm
  · obtain rfl := List.mem_singleton.mp hp
    subst hx
    rw [w_107, pay1_up]
    exact (up4_emb (D.S i) 0 (by norm_num) .f32 (by decide) x).symm

end Cert.WKV
-- ==== Proof.Link.lean ====
module

public import proofs.«01_k».proof.Proof.Spec
public import proofs.«01_k».proof.Proof.Out

/-! The kernel's block, head by head: its outputs and final states are those of the recurrence. -/

@[expose] public section

set_option maxRecDepth 16384

noncomputable section

namespace Cert.WKV

open Idealize.ShloMosaic Cert.KernelIdeal Cert.KernelIdeal.Gen

/-- Channel `q` of head `h` among a block's rows. -/
def fl (h : Fin 2) (q : Fin 64) : Fin 128 := ⟨64 * h.1 + q.1, by omega⟩

/-- Step `t` of chunk `u`. -/
def tm (u : Fin 2) (t : Fin 64) : Fin 128 := ⟨64 * u.1 + t.1, by omega⟩

/-- Two heads stacked, read at one head. -/
theorem flat_fl (X : Fin 2 → Matrix (Fin 64) (Fin 128) ℝ) (h : Fin 2) (q : Fin 64) (t : Fin 128) : flat X (fl h q) t = X h q t := by
  have h1 : (⟨(fl h q).1 / 64, by omega⟩ : Fin 2) = h := Fin.ext (by simp only [fl]; omega)
  have h2 : (⟨(fl h q).1 % 64, by omega⟩ : Fin 64) = q := Fin.ext (by simp only [fl]; omega)
  rw [flat, h1, h2]

/-- A scale repeated over the rows of its head. -/
theorem rep_fl (c : Matrix (Fin 2) (Fin 128) ℝ) (h : Fin 2) (q : Fin 64) (t : Fin 128) : rep c (fl h q) t = c h t := by
  have h1 : (⟨(fl h q).1 / 64, by omega⟩ : Fin 2) = h := Fin.ext (by simp only [fl]; omega)
  rw [rep, h1]

namespace Ins
variable (D : Ins) (i : grid0.Coords)

/-- One head's inputs. -/
def head (h : Fin 2) : Head where
  n := D.n i
  r := D.r h
  k := D.k h
  v := D.v h
  wl := D.wl h
  kk := D.kk h
  ic := D.ic h
  rs := rows2 i D.rs h
  ks := rows2 i D.ks h
  vs := rows2 i D.vs h
  s0 := D.s0 h

variable (h u : Fin 2) (q t : Fin 64)

/-- The log decays of one head, zero at masked steps. -/
theorem L_fl (s : Fin 128) : D.L i (fl h q) s = (D.head i h).lw q s := by
  simp only [L, had, row, Matrix.sub_apply, ex, flat_fl, Matrix.zero_apply]
  rfl

/-- The masked running sums of the log decays, read at one head. -/
theorem lC_fl : lC (D.L i) tri (fl h q) (tm u t) = (D.head i h).lam (64 * u.1) (t.1 + 1) q := by
  simp only [lC, sub, Matrix.mul_apply, Head.lam]
  refine Finset.sum_congr rfl fun s _ => ?_
  have e : (⟨0 + (fl h q).1, by omega⟩ : Fin 128) = fl h q := Fin.ext (Nat.zero_add _)
  rw [e, L_fl]
  congr 1
  have hl : 0 + (tm u t).1 < 128 := by simp only [tm]; omega
  simp only [tri, hcat, hl, dif_pos, triL, Nat.zero_add]
  have h1 : (s.1 / 64 = (tm u t).1 / 64 ∧ s.1 ≤ (tm u t).1) ↔ (64 * u.1 ≤ s.1 ∧ s.1 < 64 * u.1 + (t.1 + 1)) := by
    simp only [tm]; omega
  have h2 : (s.1 / 64 = (tm u t).1 / 64 ∧ s.1 % 64 < 32) ↔ (64 * u.1 ≤ s.1 ∧ s.1 < 64 * u.1 + 32) := by
    simp only [tm]; omega
  simp only [h1, h2]
  exact dif_pos (by simpa only [Nat.zero_add] using hl)

/-- The decay over the first half of a chunk. -/
theorem P_even (c : Fin 128) (hc : c.1 = 2 * u.1) : D.P i c (fl h q) = Real.exp (0 - (D.head i h).lam (64 * u.1) 0 q) := by
  simp only [P, eN, ex, Matrix.transpose_apply, sub, Matrix.mul_apply, Head.lam]
  rw [zero_sub, ← Finset.sum_neg_distrib]
  congr 1
  refine Finset.sum_congr rfl fun s _ => ?_
  have e : (⟨0 + (fl h q).1, by omega⟩ : Fin 128) = fl h q := Fin.ext (Nat.zero_add _)
  rw [e, L_fl, ← mul_neg]
  congr 1
  simp only [tri, hcat, show ¬ 128 + c.1 < 128 from by omega, dif_neg, not_false_eq_true, triR, Nat.add_sub_cancel_left]
  have h1 : (s.1 / 64 = c.1 / 2 ∧ (c.1 % 2 = 0 ∧ s.1 % 64 < 32 ∨ c.1 % 2 = 1 ∧ ¬ s.1 % 64 < 32)) ↔ (64 * u.1 ≤ s.1 ∧ s.1 < 64 * u.1 + 32) := by
    omega
  have h2 : ¬ (64 * u.1 ≤ s.1 ∧ s.1 < 64 * u.1 + 0) := by omega
  simp only [h1, h2, if_false, zero_sub, neg_neg]

/-- The decay over the second half of a chunk. -/
theorem P_odd (c : Fin 128) (hc : c.1 = 2 * u.1 + 1) : D.P i c (fl h q) = Real.exp ((D.head i h).lam (64 * u.1) 64 q) := by
  simp only [P, eN, ex, Matrix.transpose_apply, sub, Matrix.mul_apply, Head.lam]
  congr 1
  refine Finset.sum_congr rfl fun s _ => ?_
  have e : (⟨0 + (fl h q).1, by omega⟩ : Fin 128) = fl h q := Fin.ext (Nat.zero_add _)
  rw [e, L_fl]
  congr 1
  simp only [tri, hcat, show ¬ 128 + c.1 < 128 from by omega, dif_neg, not_false_eq_true, triR, Nat.add_sub_cancel_left]
  by_cases h1 : 64 * u.1 ≤ s.1 ∧ s.1 < 64 * u.1 + 64
  · by_cases h2 : 64 * u.1 ≤ s.1 ∧ s.1 < 64 * u.1 + 32
    · have h3 : ¬ (s.1 / 64 = c.1 / 2 ∧ (c.1 % 2 = 0 ∧ s.1 % 64 < 32 ∨ c.1 % 2 = 1 ∧ ¬ s.1 % 64 < 32)) := by omega
      rw [if_pos h1, if_pos h2, if_neg h3]; ring
    · have h3 : (s.1 / 64 = c.1 / 2 ∧ (c.1 % 2 = 0 ∧ s.1 % 64 < 32 ∨ c.1 % 2 = 1 ∧ ¬ s.1 % 64 < 32)) := by omega
      rw [if_pos h1, if_neg h2, if_pos h3]; ring
  · have h2 : ¬ (64 * u.1 ≤ s.1 ∧ s.1 < 64 * u.1 + 32) := by omega
    have h3 : ¬ (s.1 / 64 = c.1 / 2 ∧ (c.1 % 2 = 0 ∧ s.1 % 64 < 32 ∨ c.1 % 2 = 1 ∧ ¬ s.1 % 64 < 32)) := by omega
    rw [if_neg h1, if_neg h2, if_neg h3]; ring

/-- The scaled queries, read at one head. -/
theorem R_fl : D.R i (fl h q) (tm u t) = (D.head i h).r q (tm u t) *
    ((D.head i h).rs (tm u t) * val (D.head i h).n 0 (tm u t) * Real.exp ((D.head i h).lam (64 * u.1) (t.1 + 1) q)) := by
  simp only [R, had, row, ex, flat_fl, rep_fl, lC_fl]
  rfl

/-- The scaled removal directions, read at one head. -/
theorem A_fl : D.A i (fl h q) (tm u t) = (D.head i h).kk q (tm u t) *
    Real.exp ((D.head i h).lam (64 * u.1) (t.1 + 1) q - (D.head i h).lw q (tm u t)) := by
  simp only [A, had, ex, flat_fl, Matrix.sub_apply, lC_fl, L_fl]
  rfl

/-- The scaled removal keys, read at one head. -/
theorem B_fl : D.Bn i (tm u t) (fl h q) = (D.head i h).kk q (tm u t) * (D.head i h).ic q (tm u t) *
    Real.exp (0 - (D.head i h).lam (64 * u.1) (t.1 + 1) q) * (0 - val (D.head i h).n 0 (tm u t)) := by
  simp only [Bn, Matrix.transpose_apply, had, row, ex, flat_fl, Matrix.sub_apply, Matrix.zero_apply, lC_fl]
  rfl

/-- The scaled keys, read at one head. -/
theorem K_fl : D.Kn i (tm u t) (fl h q) = (D.head i h).k q (tm u t) *
    ((D.head i h).ks (tm u t) * (D.head i h).vs (tm u t) * val (D.head i h).n 0 (tm u t) * Real.exp (0 - (D.head i h).lam (64 * u.1) (t.1 + 1) q)) := by
  simp only [Kn, Matrix.transpose_apply, had, row, ex, flat_fl, rep_fl, Matrix.sub_apply, Matrix.zero_apply, lC_fl]
  rfl

/-- The scaled states follow the kernel's recurrence. -/
theorem rec_fl : Rec ((D.head i h).Z (64 * u.1)) (fun p t => D.v h p (tm u t)) (fun s q => D.Kn i (tm u s) (fl h q))
    (fun l t => D.A i (fl h l) (tm u t)) (fun s q => D.Bn i (tm u s) (fl h q)) := by
  simp only [K_fl, A_fl, B_fl]
  exact (D.head i h).rec_Z (64 * u.1) (by omega)

/-- A read of the scaled states is the output. -/
theorem read_fl (p : Fin 64) : ∑ l, (D.head i h).Z (64 * u.1) (t.1 + 1) p l * D.R i (fl h l) (tm u t) = (D.head i h).y p (tm u t) := by
  simp only [R_fl]
  exact (D.head i h).read_Z (64 * u.1) (by omega) p t

end Ins

end Cert.WKV
-- ==== Proof.Compose.lean ====
module

public import proofs.«01_k».proof.Proof.Link

/-! The two chunks of 64 steps, one after the other, are the 128 steps of the recurrence. -/

@[expose] public section

set_option maxRecDepth 16384

noncomputable section

namespace Cert.WKV

open Idealize.ShloMosaic Cert.KernelIdeal Cert.KernelIdeal.Gen

/-- Entries of a matrix at equal positions are equal. -/
theorem at_congr {α : Type} {m n : ℕ} (M : Matrix (Fin m) (Fin n) α) {a a' : Fin m} {b b' : Fin n} (ha : a.1 = a'.1) (hb : b.1 = b'.1) : M a b = M a' b' := by
  rw [Fin.ext ha, Fin.ext hb]

section
variable (R A B : Matrix (Fin 128) (Fin 128) ℝ) (V : Matrix (Fin 64) (Fin 128) ℝ) (l t : Fin 64)

/-- The left half of the operand of the first head in chunk 0. -/
theorem xA0_L : xA0 R A l (eL t) = R (fl 0 l) (tm 0 t) := by
  rw [xA0, pick_lo_L]; exact at_congr R (by simp [fl]) (by simp [tm, eL])
/-- The right half of the operand of the first head in chunk 0. -/
theorem xA0_R : xA0 R A l (eR t) = A (fl 0 l) (tm 0 t) := by
  rw [xA0, pick_lo_R]; exact at_congr A (by simp [fl]) (by simp [tm, eR]; omega)
/-- The left half of the operand of the second head in chunk 0. -/
theorem xB0_L : xB0 R A l (eL t) = A (fl 1 l) (tm 0 t) := by
  rw [xB0, pick_lo_L]; exact at_congr A (by simp [fl]) (by simp [tm, eL])
/-- The right half of the operand of the second head in chunk 0. -/
theorem xB0_R : xB0 R A l (eR t) = R (fl 1 l) (tm 0 t) := by
  rw [xB0, pick_lo_R]; exact at_congr R (by simp [fl]) (by simp [tm, eR]; omega)
/-- The left half of the operand of the first head in chunk 1. -/
theorem xA1_L : xA1 R A l (eL t) = R (fl 0 l) (tm 1 t) := by
  rw [xA1, pick_lo_L]; exact at_congr R (by simp [fl]) (by simp [tm, eL]; omega)
/-- The right half of the operand of the first head in chunk 1. -/
theorem xA1_R : xA1 R A l (eR t) = A (fl 0 l) (tm 1 t) := by
  rw [xA1, pick_lo_R]; exact at_congr A (by simp [fl]) (by simp [tm, eR])
/-- The left half of the operand of the second head in chunk 1. -/
theorem xB1_L : xB1 R A l (eL t) = A (fl 1 l) (tm 1 t) := by
  rw [xB1, pick_lo_L]; exact at_congr A (by simp [fl]) (by simp [tm, eL]; omega)
/-- The right half of the operand of the second head in chunk 1. -/
theorem xB1_R : xB1 R A l (eR t) = R (fl 1 l) (tm 1 t) := by
  rw [xB1, pick_lo_R]; exact at_congr R (by simp [fl]) (by simp [tm, eR])

/-- Chunk 0 of the scaled keys, the columns of the first head. -/
theorem b0_L (h) : sub (p := 64) (q := 128) 0 0 h B l (eL t) = B (tm 0 l) (fl 0 t) := at_congr B (by simp [tm]) (by simp [fl, eL])
/-- Chunk 0 of the scaled keys, the columns of the second head. -/
theorem b0_R (h) : sub (p := 64) (q := 128) 0 0 h B l (eR t) = B (tm 0 l) (fl 1 t) := at_congr B (by simp [tm]) (by simp [fl, eR])
/-- Chunk 1 of the scaled keys, the columns of the first head. -/
theorem b1_L (h) : sub (p := 64) (q := 128) 64 0 h B l (eL t) = B (tm 1 l) (fl 0 t) := at_congr B (by simp [tm]) (by simp [fl, eL])
/-- Chunk 1 of the scaled keys, the columns of the second head. -/
theorem b1_R (h) : sub (p := 64) (q := 128) 64 0 h B l (eR t) = B (tm 1 l) (fl 1 t) := at_congr B (by simp [tm]) (by simp [fl, eR])
/-- Chunk 0 of the values. -/
theorem v0_at (h) : sub (p := 64) (q := 64) 0 0 h V l t = V l (tm 0 t) := at_congr V (by simp) (by simp [tm])
/-- Chunk 1 of the values. -/
theorem v1_at (h) : sub (p := 64) (q := 64) 0 64 h V l t = V l (tm 1 t) := at_congr V (by simp) (by simp [tm])
/-- The left half of the two states side by side. -/
theorem s_L (h) : sub (p := 64) (q := 64) 0 0 h V l t = V l (eL t) := at_congr V (by simp) (by simp [eL])
/-- The right half of the two states side by side. -/
theorem s_R (h) : sub (p := 64) (q := 64) 0 64 h V l t = V l (eR t) := at_congr V (by simp) (by simp [eR])
/-- Swapping the two halves of a row. -/
theorem swap_L : swap V l (eL t) = V l (eR t) := at_congr V rfl (by simp [eL, eR]; omega)
/-- Swapping the two halves of a row. -/
theorem swap_R : swap V l (eR t) = V l (eL t) := at_congr V rfl (by simp [eL, eR]; omega)
/-- Row of head 0 in the two heads stacked. -/
theorem fl0 : fl 0 t = eL t := Fin.ext (by simp [fl, eL])
/-- Row of head 1 in the two heads stacked. -/
theorem fl1 : fl 1 t = eR t := Fin.ext (by simp [fl, eR])
end

namespace Ins
variable (D : Ins) (i : grid0.Coords)

/-- The first head's scaled states, first chunk. -/
theorem rA0 : Rec ((D.head i 0).Z 0) (sub 0 0 (by norm_num) (D.v 0)) (fun s j => sub (p := 64) (q := 128) 0 0 (by norm_num) (D.Kn i) s (eL j))
    (fun l t => xA0 (D.R i) (D.A i) l (eR t)) (fun s j => sub (p := 64) (q := 128) 0 0 (by norm_num) (D.Bn i) s (eL j)) := by
  intro t p q
  simp only [xA0_R, b0_L, v0_at]
  exact D.rec_fl i 0 0 t p q

/-- The second head's scaled states obey the recurrence along chunk 0. -/
theorem rB0 : Rec ((D.head i 1).Z 0) (sub 0 0 (by norm_num) (D.v 1)) (fun s j => sub (p := 64) (q := 128) 0 0 (by norm_num) (D.Kn i) s (eR j))
    (fun l t => xB0 (D.R i) (D.A i) l (eL t)) (fun s j => sub (p := 64) (q := 128) 0 0 (by norm_num) (D.Bn i) s (eR j)) := by
  intro t p q
  simp only [xB0_L, b0_R, v0_at]
  exact D.rec_fl i 1 0 t p q

/-- The first head's scaled states obey the recurrence along chunk 1. -/
theorem rA1 : Rec ((D.head i 0).Z 64) (sub 0 64 (by norm_num) (D.v 0)) (fun s j => sub (p := 64) (q := 128) 64 0 (by norm_num) (D.Kn i) s (eL j))
    (fun l t => xA1 (D.R i) (D.A i) l (eR t)) (fun s j => sub (p := 64) (q := 128) 64 0 (by norm_num) (D.Bn i) s (eL j)) := by
  intro t p q
  simp only [xA1_R, b1_L, v1_at]
  exact D.rec_fl i 0 1 t p q

/-- The second head's scaled states obey the recurrence along chunk 1. -/
theorem rB1 : Rec ((D.head i 1).Z 64) (sub 0 64 (by norm_num) (D.v 1)) (fun s j => sub (p := 64) (q := 128) 64 0 (by norm_num) (D.Kn i) s (eR j))
    (fun l t => xB1 (D.R i) (D.A i) l (eL t)) (fun s j => sub (p := 64) (q := 128) 64 0 (by norm_num) (D.Bn i) s (eR j)) := by
  intro t p q
  simp only [xB1_L, b1_R, v1_at]
  exact D.rec_fl i 1 1 t p q

/-- The scaled state before the first step is the scaled initial state. -/
theorem e0 (h : Fin 2) (p q : Fin 64) : (D.head i h).Z 0 0 p q = D.s0 h p q * D.P i 0 (fl h q) := by
  rw [D.P_even i h 0 q 0 rfl]; rfl

/-- The first head's half of the state with which chunk 0 starts. -/
theorem eA0 (p q : Fin 64) : (D.head i 0).Z 0 0 p q = D.Z0 i p (eL q) := by
  rw [e0, fl0]
  simp only [Z0, had, row, sub]
  exact congrArg₂ _ (by simp [hcat, eL]) (at_congr _ rfl (by simp [eL]))

/-- The second head's half of the state with which chunk 0 starts. -/
theorem eB0 (p q : Fin 64) : (D.head i 1).Z 0 0 p q = D.Z0 i p (eR q) := by
  rw [e0, fl1]
  simp only [Z0, had, row, sub]
  exact congrArg₂ _ (by simp [hcat, eR]) (at_congr _ rfl (by simp [eR]))

/-- A factor and its inverse cancel. -/
theorem exp_mul_neg (a : ℝ) (x : ℝ) : x * Real.exp (0 - a) * Real.exp a = x := by
  rw [mul_assoc, ← Real.exp_add]; simp

/-- The states between the chunks, scaled anew. -/
theorem e1 (h : Fin 2) (p q : Fin 64) : (D.head i h).Z 64 0 p q
    = (D.head i h).Z 0 64 p q * (D.P i 1 (fl h q) * D.P i 2 (fl h q)) := by
  rw [D.P_odd i h 0 q 1 rfl, D.P_even i h 1 q 2 rfl]
  rw [← mul_assoc]
  exact (congrArg (· * _) (exp_mul_neg ((D.head i h).lam 0 64 q) ((D.head i h).st 64 p q))).symm

/-- The first head's half of the state with which chunk 1 starts. -/
theorem eA1 (p q : Fin 64) : (D.head i 0).Z 64 0 p q = D.Z1 i p (eL q) := by
  rw [e1, fl0]
  simp only [Z1, had, row, sub, cS_L _ _ _ _ _ _ _ (D.rA0 i) (D.rB0 i) (D.eA0 i) (D.eB0 i)]
  exact congrArg₂ _ rfl (congrArg₂ _ (at_congr _ rfl (by simp [eL])) (at_congr _ rfl (by simp [eL])))

/-- The second head's half of the state with which chunk 1 starts. -/
theorem eB1 (p q : Fin 64) : (D.head i 1).Z 64 0 p q = D.Z1 i p (eR q) := by
  rw [e1, fl1]
  simp only [Z1, had, row, sub, cS_R _ _ _ _ _ _ _ (D.rA0 i) (D.rB0 i) (D.eA0 i) (D.eB0 i)]
  exact congrArg₂ _ rfl (congrArg₂ _ (at_congr _ rfl (by simp [eR])) (at_congr _ rfl (by simp [eR])))

/-- What chunk 0 puts out in its left half is the recurrence's output of the first head. -/
theorem Y0_L (p t : Fin 64) : D.Y0 i p (eL t) = (D.head i 0).y p (tm 0 t) := by
  rw [Y0, cY_L _ _ _ _ _ _ _ (D.rA0 i) (D.rB0 i) (D.eA0 i) (D.eB0 i)]
  simp only [xA0_L]; exact D.read_fl i 0 0 t p

/-- What chunk 0 puts out in its right half is the recurrence's output of the second head. -/
theorem Y0_R (p t : Fin 64) : D.Y0 i p (eR t) = (D.head i 1).y p (tm 0 t) := by
  rw [Y0, cY_R _ _ _ _ _ _ _ (D.rA0 i) (D.rB0 i) (D.eA0 i) (D.eB0 i)]
  simp only [xB0_R]; exact D.read_fl i 1 0 t p

/-- What chunk 1 puts out in its left half is the recurrence's output of the first head. -/
theorem Y1_L (p t : Fin 64) : D.Y1 i p (eL t) = (D.head i 0).y p (tm 1 t) := by
  rw [Y1, cY_L _ _ _ _ _ _ _ (D.rA1 i) (D.rB1 i) (D.eA1 i) (D.eB1 i)]
  simp only [xA1_L]; exact D.read_fl i 0 1 t p

/-- What chunk 1 puts out in its right half is the recurrence's output of the second head. -/
theorem Y1_R (p t : Fin 64) : D.Y1 i p (eR t) = (D.head i 1).y p (tm 1 t) := by
  rw [Y1, cY_R _ _ _ _ _ _ _ (D.rA1 i) (D.rB1 i) (D.eA1 i) (D.eB1 i)]
  simp only [xB1_R]; exact D.read_fl i 1 1 t p

/-- The state after the last step is the scaled one, scaled back. -/
theorem e2 (h : Fin 2) (p q : Fin 64) : (D.head i h).st 128 p q = (D.head i h).Z 64 64 p q * D.P i 3 (fl h q) := by
  rw [D.P_odd i h 1 q 3 rfl]
  exact (exp_mul_neg ((D.head i h).lam 64 64 q) ((D.head i h).st 128 p q)).symm

/-- A head's output is the recurrence's. -/
theorem Y_eq (h : Fin 2) : D.Y i h = (D.head i h).y := by
  have t0 : ∀ t, tm 0 t = eL t := fl0
  have t1 : ∀ t, tm 1 t = eR t := fl1
  ext p t
  rcases (by omega : h = 0 ∨ h = 1) with rfl | rfl <;> rcases lane_cases t with ⟨t, rfl⟩ | ⟨t, rfl⟩
  · rw [Y, if_pos rfl, pick_lo_L, Y0_L, t0]
  · rw [Y, if_pos rfl, pick_lo_R, swap_R, Y1_L, t1]
  · rw [Y, if_neg (by decide), pick_lo_L, swap_L, Y0_R, t0]
  · rw [Y, if_neg (by decide), pick_lo_R, Y1_R, t1]

/-- A head's final state is the recurrence's. -/
theorem S_eq (h : Fin 2) : D.S i h = (D.head i h).st 128 := by
  ext p q
  rw [e2]
  rcases (by omega : h = 0 ∨ h = 1) with rfl | rfl
  · rw [S, if_pos rfl, fl0]
    rw [s_L, SF]
    simp only [had, row, sub, cS_L _ _ _ _ _ _ _ (D.rA1 i) (D.rB1 i) (D.eA1 i) (D.eB1 i)]
    exact congrArg₂ _ rfl (at_congr (D.P i) rfl (by simp [eL]))
  · rw [S, if_neg (by decide), fl1]
    rw [s_R, SF]
    simp only [had, row, sub, cS_R _ _ _ _ _ _ _ (D.rA1 i) (D.rB1 i) (D.eA1 i) (D.eB1 i)]
    exact congrArg₂ _ rfl (at_congr (D.P i) rfl (by simp [eR]))

end Ins

end Cert.WKV
-- ==== Proof.KArr.lean ====
module

public import proofs.«01_k».proof.Proof.Compose
public import proofs.«01_k».proof.Proof.Arrays
public import proofs.«01_k».proof.Proof.Gen.KernelIdeal.Frame
public import Idealize.ShloMosaic.Lib.Pipeline.ValueKit

/-! The kernel's arrays: its blocks are those of the arguments, and each result array is the recurrence's. -/

@[expose] public section

set_option maxRecDepth 16384

noncomputable section

namespace Cert.WKV

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Where each operand's window stands at each grid point. -/
theorem idx0 : ∀ t : Fin cfg0.N, win0_0.index t = ![0] ∧ win0_1.index t = ![t.val / 20, t.val % 20, 0, 0] ∧ win0_4.index t = ![t.val / 20, 0, 0]
   ∧ win0_10.index t = ![t.val / 20, t.val % 20, 0, 0] ∧ win0_11.index t = ![t.val / 20, t.val % 20, 0, 0] ∧ win0_12.index t = ![t.val / 20, t.val % 20, 0, 0]
   ∧ win0_2.index t = ![t.val / 20, t.val % 20, 0, 0] ∧ win0_3.index t = ![t.val / 20, t.val % 20, 0, 0] ∧ win0_7.index t = ![t.val / 20, t.val % 20, 0, 0]
   ∧ win0_8.index t = ![t.val / 20, t.val % 20, 0, 0] ∧ win0_9.index t = ![t.val / 20, t.val % 20, 0, 0]
   ∧ win0_5.index t = ![t.val / 20, 0, 0] ∧ win0_6.index t = ![t.val / 20, 0, 0] :=
  (by decide +kernel : ∀ t : Fin grid0.N, _)

/-- The grid point of each trip: batch and pair of heads. -/
theorem coords0 : ∀ t : Fin cfg0.N, (grid0.coords t 0).val = t.val / 20 ∧ (grid0.coords t 1).val = t.val % 20 :=
  (by decide +kernel : ∀ t : Fin grid0.N, _)

variable (X : Arr) (c : Dev nD)
  (hX : X.Is (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)))

/-- A head of the pair a grid point works on. -/
def hd (i : grid0.Coords) (h : Fin 2) : Fin 40 := ⟨2 * (i 1).1 + h.1, by have := (i 1).isLt; change (i 1).1 < 20 at this; omega⟩
/-- The batch entry a grid point works on. -/
def bt (i : grid0.Coords) : Fin 2 := ⟨(i 0).1, (i 0).isLt⟩

/-- A grid point's inputs. -/
def Arr.ins (i : grid0.Coords) : Ins where
  x0 := X.len
  r := fun h q t => X.r (bt i) t (hd i h) q
  k := fun h q t => X.k (bt i) t (hd i h) q
  v := fun h q t => X.v (bt i) t (hd i h) q
  wl := fun h q t => X.wl (bt i) t (hd i h) q
  kk := fun h q t => X.kk (bt i) t (hd i h) q
  ic := fun h q t => X.ic (bt i) t (hd i h) q
  rs := fun g t => X.rs (bt i) t g
  ks := fun g t => X.ks (bt i) t g
  vs := fun g t => X.vs (bt i) t g
  s0 := fun h => X.s0 (bt i) (hd i h)

/-- A head of the pair a grid point reads is that head of the whole arrays. -/
theorem ins_head (i : grid0.Coords) (h : Fin 2) : (X.ins i).head i h = X.head (bt i) (hd i h) := rfl

/-- Entries of an array of 3 axes at equal positions are equal. -/
theorem at3 {α : Type} {a c d : ℕ} (f : Fin a → Matrix (Fin c) (Fin d) α) {i i' : Fin a} {k k' : Fin c} {l l' : Fin d}
    (hi : i.1 = i'.1) (hk : k.1 = k'.1) (hl : l.1 = l'.1) : f i k l = f i' k' l' := by
  rw [Fin.ext hi, Fin.ext hk, Fin.ext hl]

/-- Entries of an array of 4 axes at equal positions are equal. -/
theorem at4 {α : Type} {a b c d : ℕ} (f : Fin a → Fin b → Matrix (Fin c) (Fin d) α) {i i' : Fin a} {j j' : Fin b} {k k' : Fin c} {l l' : Fin d}
    (hi : i.1 = i'.1) (hj : j.1 = j'.1) (hk : k.1 = k'.1) (hl : l.1 = l'.1) : f i j k l = f i' j' k' l' := by
  rw [Fin.ext hi, Fin.ext hj, Fin.ext hk, Fin.ext hl]

/-- An array with its steps moved last. -/
theorem tr4 {φ : FTy} (f : Fin 2 → Fin 128 → Matrix (Fin 40) (Fin 64) ℝ) :
    transpose S2x40x64x128 [0, 2, 3, 1] (up4 (φ := φ) f) transposes_S2x128x40x64_S2x40x64x128_0_2_3_1 = (up4 (φ := φ) fun b h q t => f b t h q) := by
  funext y
  idx_vars y
  pointwise []
  rfl

/-- Transposing the last two axes of an array of reals. -/
theorem tr3 {φ : FTy} (f : Fin 2 → Matrix (Fin 128) (Fin 40) ℝ) :
    transpose S2x40x128 [0, 2, 1] (up3 (φ := φ) f) transposes_S2x128x40_S2x40x128_0_2_1 = (up3 (φ := φ) fun b h t => f b t h) := by
  funext y
  idx_vars y
  pointwise []
  rfl

/-- A rounding of reals is those reals. -/
theorem cv4 (f : Fin 2 → Fin 128 → Matrix (Fin 40) (Fin 64) ℝ) :
    Host.convertf (F := Ideal) .fp8e4m3 (up4 (φ := .f32) f) = (up4 (φ := .fp8e4m3) f) := rfl

include hX
omit hX in
/-- Operand 1 of the kernel, from the arguments. -/
theorem raw1 : V m c main_v3 = transpose S2x40x64x128 [0, 2, 3, 1] (Host.convertf (F := Ideal) (s := S2x128x40x64) (φ := .f32) .fp8e4m3 (m ((c : Thread nD τ).loc main_arg0))) transposes_S2x128x40x64_S2x40x64x128_0_2_3_1 := rfl

/-- Operand 1 of the kernel is an array of reals. -/
theorem arr1 : V m c main_v3 = (up4 (φ := .fp8e4m3) fun b h q t => X.r b t h q) := by
  rw [raw1, hX.e0, cv4, tr4]

/-- A block of the receptances. -/
theorem blk1 (t : Fin cfg0.N) : iblk m c 1 t = (up4 (φ := .fp8e4m3) fun _ => (X.ins (grid0.coords t)).r) := by
  have hi := idx0 t
  have hc := coords0 t
  funext y
  show V m c main_v3 (((cfg0.win 1).blk t).view.emb y) = _
  rw [arr1 m X c hX]
  idx_vars y
  refine congrArg _ (at4 X.r ?_ ?_ ?_ ?_)
  · blk_simp [hi.2.1]; exact hc.1.symm
  · blk_simp [hi.2.1]
  · blk_simp [hi.2.1]; show _ = 2 * (grid0.coords t 1).val + y1.1; omega
  · blk_simp [hi.2.1]

omit hX in
/-- Operand 2 of the kernel, from the arguments. -/
theorem raw2 : V m c main_v4 = transpose S2x40x64x128 [0, 2, 3, 1] (Host.convertf (F := Ideal) (s := S2x128x40x64) (φ := .f32) .fp8e4m3 (m ((c : Thread nD τ).loc main_arg1))) transposes_S2x128x40x64_S2x40x64x128_0_2_3_1 := rfl

/-- Operand 2 of the kernel is an array of reals. -/
theorem arr2 : V m c main_v4 = (up4 (φ := .fp8e4m3) fun b h q t => X.k b t h q) := by
  rw [raw2, hX.e1, cv4, tr4]

/-- A block of the keys. -/
theorem blk2 (t : Fin cfg0.N) : iblk m c 2 t = (up4 (φ := .fp8e4m3) fun _ => (X.ins (grid0.coords t)).k) := by
  have hi := idx0 t
  have hc := coords0 t
  funext y
  show V m c main_v4 (((cfg0.win 2).blk t).view.emb y) = _
  rw [arr2 m X c hX]
  idx_vars y
  refine congrArg _ (at4 X.k ?_ ?_ ?_ ?_)
  · blk_simp [hi.2.2.2.2.2.2.1]; exact hc.1.symm
  · blk_simp [hi.2.2.2.2.2.2.1]
  · blk_simp [hi.2.2.2.2.2.2.1]; show _ = 2 * (grid0.coords t 1).val + y1.1; omega
  · blk_simp [hi.2.2.2.2.2.2.1]

omit hX in
/-- Operand 3 of the kernel, from the arguments. -/
theorem raw3 : V m c main_v5 = transpose S2x40x64x128 [0, 2, 3, 1] (Host.convertf (F := Ideal) (s := S2x128x40x64) (φ := .f32) .fp8e4m3 (m ((c : Thread nD τ).loc main_arg2))) transposes_S2x128x40x64_S2x40x64x128_0_2_3_1 := rfl

/-- Operand 3 of the kernel is an array of reals. -/
theorem arr3 : V m c main_v5 = (up4 (φ := .fp8e4m3) fun b h q t => X.v b t h q) := by
  rw [raw3, hX.e2, cv4, tr4]

/-- A block of the values. -/
theorem blk3 (t : Fin cfg0.N) : iblk m c 3 t = (up4 (φ := .fp8e4m3) fun _ => (X.ins (grid0.coords t)).v) := by
  have hi := idx0 t
  have hc := coords0 t
  funext y
  show V m c main_v5 (((cfg0.win 3).blk t).view.emb y) = _
  rw [arr3 m X c hX]
  idx_vars y
  refine congrArg _ (at4 X.v ?_ ?_ ?_ ?_)
  · blk_simp [hi.2.2.2.2.2.2.2.1]; exact hc.1.symm
  · blk_simp [hi.2.2.2.2.2.2.2.1]
  · blk_simp [hi.2.2.2.2.2.2.2.1]; show _ = 2 * (grid0.coords t 1).val + y1.1; omega
  · blk_simp [hi.2.2.2.2.2.2.2.1]

omit hX in
/-- Operand 4 of the kernel, from the arguments. -/
theorem raw4 : V m c main_v6 = transpose S2x40x128 [0, 2, 1] (m ((c : Thread nD τ).loc main_arg3)) transposes_S2x128x40_S2x40x128_0_2_1 := rfl

/-- Operand 4 of the kernel is an array of reals. -/
theorem arr4 : V m c main_v6 = (up3 (φ := .f32) fun b h t => X.rs b t h) := by
  rw [raw4, hX.e3, tr3]

/-- A block of the receptances' scales. -/
theorem blk4 (t : Fin cfg0.N) : iblk m c 4 t = (up3 (φ := .f32) fun _ => (X.ins (grid0.coords t)).rs) := by
  have hi := idx0 t
  have hc := coords0 t
  funext y
  show V m c main_v6 (((cfg0.win 4).blk t).view.emb y) = _
  rw [arr4 m X c hX]
  idx_vars y
  refine congrArg _ (at3 X.rs ?_ ?_ ?_)
  · blk_simp [hi.2.2.1]; exact hc.1.symm
  · blk_simp [hi.2.2.1]
  · blk_simp [hi.2.2.1]

omit hX in
/-- Operand 5 of the kernel, from the arguments. -/
theorem raw5 : V m c main_v7 = transpose S2x40x128 [0, 2, 1] (m ((c : Thread nD τ).loc main_arg4)) transposes_S2x128x40_S2x40x128_0_2_1 := rfl

/-- Operand 5 of the kernel is an array of reals. -/
theorem arr5 : V m c main_v7 = (up3 (φ := .f32) fun b h t => X.ks b t h) := by
  rw [raw5, hX.e4, tr3]

/-- A block of the keys' scales. -/
theorem blk5 (t : Fin cfg0.N) : iblk m c 5 t = (up3 (φ := .f32) fun _ => (X.ins (grid0.coords t)).ks) := by
  have hi := idx0 t
  have hc := coords0 t
  funext y
  show V m c main_v7 (((cfg0.win 5).blk t).view.emb y) = _
  rw [arr5 m X c hX]
  idx_vars y
  refine congrArg _ (at3 X.ks ?_ ?_ ?_)
  · blk_simp [hi.2.2.2.2.2.2.2.2.2.2.2.1]; exact hc.1.symm
  · blk_simp [hi.2.2.2.2.2.2.2.2.2.2.2.1]
  · blk_simp [hi.2.2.2.2.2.2.2.2.2.2.2.1]

omit hX in
/-- Operand 6 of the kernel, from the arguments. -/
theorem raw6 : V m c main_v8 = transpose S2x40x128 [0, 2, 1] (m ((c : Thread nD τ).loc main_arg5)) transposes_S2x128x40_S2x40x128_0_2_1 := rfl

/-- Operand 6 of the kernel is an array of reals. -/
theorem arr6 : V m c main_v8 = (up3 (φ := .f32) fun b h t => X.vs b t h) := by
  rw [raw6, hX.e5, tr3]

/-- A block of the values' scales. -/
theorem blk6 (t : Fin cfg0.N) : iblk m c 6 t = (up3 (φ := .f32) fun _ => (X.ins (grid0.coords t)).vs) := by
  have hi := idx0 t
  have hc := coords0 t
  funext y
  show V m c main_v8 (((cfg0.win 6).blk t).view.emb y) = _
  rw [arr6 m X c hX]
  idx_vars y
  refine congrArg _ (at3 X.vs ?_ ?_ ?_)
  · blk_simp [hi.2.2.2.2.2.2.2.2.2.2.2.2]; exact hc.1.symm
  · blk_simp [hi.2.2.2.2.2.2.2.2.2.2.2.2]
  · blk_simp [hi.2.2.2.2.2.2.2.2.2.2.2.2]

omit hX in
/-- Operand 7 of the kernel, from the arguments. -/
theorem raw7 : V m c main_v9 = transpose S2x40x64x128 [0, 2, 3, 1] (m ((c : Thread nD τ).loc main_arg6)) transposes_S2x128x40x64_S2x40x64x128_0_2_3_1 := rfl

/-- Operand 7 of the kernel is an array of reals. -/
theorem arr7 : V m c main_v9 = (up4 (φ := .bf16) fun b h q t => X.wl b t h q) := by
  rw [raw7, hX.e6, tr4]

/-- A block of the decays. -/
theorem blk7 (t : Fin cfg0.N) : iblk m c 7 t = (up4 (φ := .bf16) fun _ => (X.ins (grid0.coords t)).wl) := by
  have hi := idx0 t
  have hc := coords0 t
  funext y
  show V m c main_v9 (((cfg0.win 7).blk t).view.emb y) = _
  rw [arr7 m X c hX]
  idx_vars y
  refine congrArg _ (at4 X.wl ?_ ?_ ?_ ?_)
  · blk_simp [hi.2.2.2.2.2.2.2.2.1]; exact hc.1.symm
  · blk_simp [hi.2.2.2.2.2.2.2.2.1]
  · blk_simp [hi.2.2.2.2.2.2.2.2.1]; show _ = 2 * (grid0.coords t 1).val + y1.1; omega
  · blk_simp [hi.2.2.2.2.2.2.2.2.1]

omit hX in
/-- Operand 8 of the kernel, from the arguments. -/
theorem raw8 : V m c main_v10 = transpose S2x40x64x128 [0, 2, 3, 1] (m ((c : Thread nD τ).loc main_arg7)) transposes_S2x128x40x64_S2x40x64x128_0_2_3_1 := rfl

/-- Operand 8 of the kernel is an array of reals. -/
theorem arr8 : V m c main_v10 = (up4 (φ := .bf16) fun b h q t => X.kk b t h q) := by
  rw [raw8, hX.e7, tr4]

/-- A block of the removal keys. -/
theorem blk8 (t : Fin cfg0.N) : iblk m c 8 t = (up4 (φ := .bf16) fun _ => (X.ins (grid0.coords t)).kk) := by
  have hi := idx0 t
  have hc := coords0 t
  funext y
  show V m c main_v10 (((cfg0.win 8).blk t).view.emb y) = _
  rw [arr8 m X c hX]
  idx_vars y
  refine congrArg _ (at4 X.kk ?_ ?_ ?_ ?_)
  · blk_simp [hi.2.2.2.2.2.2.2.2.2.1]; exact hc.1.symm
  · blk_simp [hi.2.2.2.2.2.2.2.2.2.1]
  · blk_simp [hi.2.2.2.2.2.2.2.2.2.1]; show _ = 2 * (grid0.coords t 1).val + y1.1; omega
  · blk_simp [hi.2.2.2.2.2.2.2.2.2.1]

omit hX in
/-- Operand 9 of the kernel, from the arguments. -/
theorem raw9 : V m c main_v11 = transpose S2x40x64x128 [0, 2, 3, 1] (m ((c : Thread nD τ).loc main_arg8)) transposes_S2x128x40x64_S2x40x64x128_0_2_3_1 := rfl

/-- Operand 9 of the kernel is an array of reals. -/
theorem arr9 : V m c main_v11 = (up4 (φ := .bf16) fun b h q t => X.ic b t h q) := by
  rw [raw9, hX.e8, tr4]

/-- A block of the rates. -/
theorem blk9 (t : Fin cfg0.N) : iblk m c 9 t = (up4 (φ := .bf16) fun _ => (X.ins (grid0.coords t)).ic) := by
  have hi := idx0 t
  have hc := coords0 t
  funext y
  show V m c main_v11 (((cfg0.win 9).blk t).view.emb y) = _
  rw [arr9 m X c hX]
  idx_vars y
  refine congrArg _ (at4 X.ic ?_ ?_ ?_ ?_)
  · blk_simp [hi.2.2.2.2.2.2.2.2.2.2.1]; exact hc.1.symm
  · blk_simp [hi.2.2.2.2.2.2.2.2.2.2.1]
  · blk_simp [hi.2.2.2.2.2.2.2.2.2.2.1]; show _ = 2 * (grid0.coords t 1).val + y1.1; omega
  · blk_simp [hi.2.2.2.2.2.2.2.2.2.2.1]

/-- A block of the initial states. -/
theorem blk10 (t : Fin cfg0.N) : iblk m c 10 t = (up4 (φ := .f32) fun _ => (X.ins (grid0.coords t)).s0) := by
  have hi := idx0 t
  have hc := coords0 t
  funext y
  show V m c main_arg9 (((cfg0.win 10).blk t).view.emb y) = _
  rw [V_main_arg9, hX.e9]
  idx_vars y
  refine congrArg _ (at4 X.s0 ?_ ?_ ?_ ?_)
  · blk_simp [hi.2.2.2.1]; exact hc.1.symm
  · blk_simp [hi.2.2.2.1]; show _ = 2 * (grid0.coords t 1).val + y1.1; omega
  · blk_simp [hi.2.2.2.1]
  · blk_simp [hi.2.2.2.1]

/-- The lengths. -/
theorem blk0 (t : Fin cfg0.N) : iblk m c 0 t = X.len := by
  have hi := idx0 t
  funext y
  show V m c main_arg10 (((cfg0.win 0).blk t).view.emb y) = _
  rw [V_main_arg10, hX.e10]
  idx_vars y
  refine congrArg X.len ?_
  refine (eq_ix1 _).trans (congrArg ix1 (Fin.ext ?_))
  blk_simp [hi.1]

end Cert.WKV
-- ==== Proof.KFin.lean ====
module

public import proofs.«01_k».proof.Proof.KArr

/-! The kernel's result arrays after the grid: the recurrence's outputs and final states. -/

@[expose] public section

set_option maxRecDepth 16384

noncomputable section

namespace Cert.WKV

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (X : Arr) (c : Dev nD)
  (hX : X.Is (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)))

include hX

/-- What a grid point leaves in the output's block. -/
theorem left11 (t : Fin cfg0.N) : (outsAt0 m c t).1 = (up4 (φ := .bf16) fun _ h => (X.head (bt (grid0.coords t)) (hd (grid0.coords t) h)).y) := by
  unfold outsAt0
  dsimp only
  rw [blk0 m X c hX t, blk1 m X c hX t, blk2 m X c hX t, blk3 m X c hX t, blk4 m X c hX t, blk5 m X c hX t, blk6 m X c hX t, blk7 m X c hX t,
    blk8 m X c hX t, blk9 m X c hX t, blk10 m X c hX t]
  refine (out11 (X.ins (grid0.coords t)) c (grid0.coords t) _ _ _ _ _ _ _ _ _ _ _ _ _ _ _ _ _ _ _ _ _ _ _ _ _ _).trans ?_
  exact congrArg (fun f => up4 (φ := .bf16) fun _ : Fin 1 => f) (funext fun h => ((X.ins (grid0.coords t)).Y_eq (grid0.coords t) h).trans (congrArg Head.y (ins_head X (grid0.coords t) h)))

/-- What a grid point leaves in the final states' block. -/
theorem left12 (t : Fin cfg0.N) : (outsAt0 m c t).2 = (up4 (φ := .f32) fun _ h => (X.head (bt (grid0.coords t)) (hd (grid0.coords t) h)).st 128) := by
  unfold outsAt0
  dsimp only
  rw [blk0 m X c hX t, blk1 m X c hX t, blk2 m X c hX t, blk3 m X c hX t, blk4 m X c hX t, blk5 m X c hX t, blk6 m X c hX t, blk7 m X c hX t,
    blk8 m X c hX t, blk9 m X c hX t, blk10 m X c hX t]
  refine (out12 (X.ins (grid0.coords t)) c (grid0.coords t) _ _ _ _ _ _ _ _ _ _ _ _ _ _ _ _ _ _ _ _ _ _ _ _ _ _).trans ?_
  exact congrArg (fun f => up4 (φ := .f32) fun _ : Fin 1 => f) (funext fun h => ((X.ins (grid0.coords t)).S_eq (grid0.coords t) h).trans (congrArg (fun H => Head.st H 128) (ins_head X (grid0.coords t) h)))

omit hX in
/-- Where the final states' block lies in the array. -/
theorem place12 (f : Fin 2 → Fin 40 → Matrix (Fin 64) (Fin 64) ℝ) (t : Fin cfg0.N) (y : S1x2x64x64.Idx) :
    up4 (φ := .f32) (fun (_ : Fin 1) h => f (bt (grid0.coords t)) (hd (grid0.coords t) h)) y = up4 (φ := .f32) f ((win0_12.blk t).view.emb y) := by
  have hi := (idx0 t).2.2.2.2.2.1
  have hc := coords0 t
  idx_vars y
  refine congrArg _ (at4 f ?_ ?_ ?_ ?_)
  · blk_simp [hi]; exact hc.1
  · blk_simp [hi]; show 2 * (grid0.coords t 1).val + y1.1 = _; omega
  · blk_simp [hi]
  · blk_simp [hi]

omit hX in
/-- Where the output's block lies in the array. -/
theorem place11 (f : Fin 2 → Fin 40 → Matrix (Fin 64) (Fin 128) ℝ) (t : Fin cfg0.N) (y : S1x2x64x128.Idx) :
    up4 (φ := .bf16) (fun (_ : Fin 1) h => f (bt (grid0.coords t)) (hd (grid0.coords t) h)) y = up4 (φ := .bf16) f ((win0_11.blk t).view.emb y) := by
  have hi := (idx0 t).2.2.2.2.1
  have hc := coords0 t
  idx_vars y
  refine congrArg _ (at4 f ?_ ?_ ?_ ?_)
  · blk_simp [hi]; exact hc.1
  · blk_simp [hi]; show 2 * (grid0.coords t 1).val + y1.1 = _; omega
  · blk_simp [hi]
  · blk_simp [hi]

/-- The final states' array. -/
theorem final12 : (dats m 0 c).arrAt 12 cfg0.N = X.S := by
  refine (dats m 0 c).arrAt_eq_of_covers 12 _ (by decide +kernel) fun t hf y => ?_
  have e : (dats m 0 c).after 12 t = _ := (after0_12 m c t).trans (left12 m X c hX t)
  blk_simp
  exact (congrFun e y).trans (place12 (fun b h => (X.head b h).st 128) t y)

/-- The outputs' array, before its steps are moved to their place. -/
theorem final11 : (dats m 0 c).arrAt 11 cfg0.N = (up4 (φ := .bf16) fun b h => (X.head b h).y : FVec Ideal S2x40x64x128 .bf16) := by
  refine (dats m 0 c).arrAt_eq_of_covers 11 _ (by decide +kernel) fun t hf y => ?_
  have e : (dats m 0 c).after 11 t = _ := (after0_11 m c t).trans (left11 m X c hX t)
  blk_simp
  exact (congrFun e y).trans (place11 (fun b h => (X.head b h).y) t y)

omit hX in
/-- The outputs with their steps moved to their place. -/
theorem tr_out : transpose S2x128x40x64 [0, 3, 1, 2] (up4 (φ := .bf16) fun b h => (X.head b h).y : FVec Ideal S2x40x64x128 .bf16) transposes_S2x40x64x128_S2x128x40x64_0_3_1_2 = X.Y := by
  funext y
  idx_vars y
  pointwise []
  rfl

end Cert.WKV
-- ==== Proof.KRun.lean ====
module

public import proofs.«01_k».proof.Proof.KFin

/-! The kernel's run on arguments of reals: it ends with the recurrence's outputs and final states. -/

@[expose] public section

set_option maxRecDepth 16384

noncomputable section

namespace Cert.WKV

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ) (ρ : Dev nD → PrngReg)

/-- The line after the region moves the outputs' steps to their place. -/
theorem tail13 (c : Dev nD) : Pipeline.afterTail₀ cfgs (dats m) 0 (V0 m) [hostOps1] c main_v13
    = transpose S2x128x40x64 [0, 3, 1, 2] ((dats m 0 c).arrAt 11 cfg0.N) transposes_S2x40x64x128_S2x128x40x64_0_3_1_2 := by
  unfold Pipeline.afterTail₀
  have e : StableHlo.after [hostOps1 (F := Ideal)].flatten (Pipeline.withArrays (cfgs 0).spec c (V0 m c) fun w => (dats m 0 c).arrAt w (cfgs 0).N) (Proc.devRef .tc main_v13)
      = transpose S2x128x40x64 [0, 3, 1, 2] (Pipeline.withArrays (cfgs 0).spec c (V0 m c) (fun w => (dats m 0 c).arrAt w (cfgs 0).N) (Proc.devRef .tc main_v12_0)) transposes_S2x40x64x128_S2x128x40x64_0_3_1_2 := rfl
  refine e.trans (congrArg (fun x => transpose S2x128x40x64 [0, 3, 1, 2] x transposes_S2x40x64x128_S2x128x40x64_0_3_1_2) ?_)
  exact Pipeline.withArrays_arr (cfgs 0).spec (by decide) c (V0 m c) (fun w => (dats m 0 c).arrAt w (cfgs 0).N) 11

/-- The kernel's run. -/
theorem run (X : Dev nD → Arr) (hX : ∀ c : Dev nD, (X c).Is (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    θ_run (defs (F := Ideal)) (onTc (τ := τ) (main (F := Ideal))) ⟨m, fun _ => 0, ρ⟩ (fun r => ∀ c : Dev nD,
      r.2.mem ((c.tc : Thread nD τ).loc main_v13) = (X c).Y
      ∧ r.2.mem ((c.tc : Thread nD τ).loc main_v12_1) = (X c).S
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c => ⟨
      (((h.1 c).2 main_v13 (Pipeline.mem_restRefs_of main_v13 (by decide) (by decide))).trans (tail13 m c)).trans
        ((congrArg (fun x => transpose S2x128x40x64 [0, 3, 1, 2] x transposes_S2x40x64x128_S2x128x40x64_0_3_1_2) (final11 m (X c) c (hX c))).trans (tr_out (X c))),
      ((h.1 c).1 12).trans (final12 m (X c) c (hX c)), h.2 c⟩)
    (θ_run_and (run_main (F := Ideal) m ρ) (unchanged (F := Ideal) m ρ))

end Cert.WKV
-- ==== Proof.RefStep.lean ====
module

public import proofs.«01_k».proof.Proof.Arrays
public import proofs.«01_k».proof.Proof.Gen.ReferenceIdeal.Value
public import Idealize.ShloMosaic.Lib.Pipeline.ValueKit
public import Idealize.ShloMosaic.Lib.WholeRead

/-! One step of the reference's loop on arrays of reals is one step of the recurrence. -/

@[expose] public section

set_option maxRecDepth 16384

noncomputable section

namespace Cert.WKV.Ref

open Idealize.ShloMosaic Cert.ReferenceIdeal Cert.ReferenceIdeal.Gen

/-- A trip's number as a step. -/
def kf (k : Fin k0_t1_loop.trips) : Fin 128 := ⟨k.1, k.2⟩

/-- A trip's row of a four-axis array. -/
theorem off1_eq (k : Fin k0_t1_loop.trips) : k0_off1 k = ![0, k.1, 0, 0] := by
  revert k; decide +kernel

/-- A trip's row of a three-axis array. -/
theorem off2_eq (k : Fin k0_t1_loop.trips) : k0_off2 k = ![0, k.1, 0] := by
  revert k; decide +kernel

/-- A trip's counter. -/
theorem iv_eq (k : Fin k0_t1_loop.trips) : Scf.iv 0#32 1#32 k.1 = BitVec.ofNat 32 (kf k).1 := by
  revert k; decide +kernel

section reads
variable {e : EltTy} (k : Fin k0_t1_loop.trips)

/-- A trip's load from a four-axis array. -/
theorem rd4 (arg : Memref sig .tc .vmem S2x128x40x64 e) (harg : arg.IsWhole) (x : S2x128x40x64.Idx → Elt Ideal e) (b : Fin 2) (z : Fin 1) (h : Fin 40) (q : Fin 64) :
    View.readAt (Elt Ideal) arg.view (Rect.unit (s := S2x128x40x64) (k0_off1 k) S2x1x40x64.size (k0_off1_inb k)).toLoadRect (harg.unread x) (ix4 b z h q) = x (ix4 b (kf k) h q) := by
  rw [Memref.IsWhole.readAt_unread]
  refine congrArg x (funext fun a => Fin.ext ?_)
  show k0_off1 k a + 1 * (ix4 b z h q a).1 = (ix4 b (kf k) h q a).1
  have e := congrFun (off1_eq k) a
  generalize k0_off1 k = o at e ⊢
  rw [e]
  have hz : z.1 = 0 := by omega
  fin_cases a <;> simp [ix4, kf, hz]

/-- A trip's load from a three-axis array. -/
theorem rd3 (arg : Memref sig .tc .vmem S2x128x40 e) (harg : arg.IsWhole) (x : S2x128x40.Idx → Elt Ideal e) (b : Fin 2) (z : Fin 1) (h : Fin 40) :
    View.readAt (Elt Ideal) arg.view (Rect.unit (s := S2x128x40) (k0_off2 k) S2x1x40.size (k0_off2_inb k)).toLoadRect (harg.unread x) (ix3 b z h) = x (ix3 b (kf k) h) := by
  rw [Memref.IsWhole.readAt_unread]
  refine congrArg x (funext fun a => Fin.ext ?_)
  show k0_off2 k a + 1 * (ix3 b z h a).1 = (ix3 b (kf k) h a).1
  have e := congrFun (off2_eq k) a
  generalize k0_off2 k = o at e ⊢
  rw [e]
  have hz : z.1 = 0 := by omega
  fin_cases a <;> simp [ix3, kf, hz]
end reads

/-- The new state before the mask. -/
theorem pay8_at (acc : FVec Ideal S2x40x64x64 .f32) (v25 v35 v43 : FVec Ideal S2x40x64 .f32) (v45 v51 : FVec Ideal S2x1x40x64 .bf16)
    (b : Fin 2) (h : Fin 40) (p q : Fin 64) : k0_pay8 (F := Ideal) acc v25 v35 v43 v45 v51 (ix4 b h p q)
      = acc (ix4 b h p q) * v43 (ix3 b h q) + (∑ l, acc (ix4 b h p l) * (0 - v45 (ix4 b 0 h l))) * (v45 (ix4 b 0 h q) * v51 (ix4 b 0 h q))
        + v35 (ix3 b h p) * v25 (ix3 b h q) := by
  pointwise [k0_pay8]

/-- The masked output. -/
theorem pay9_at (v0 : IVec S2 32) (a13 : BitVec 32) (acc : FVec Ideal S2x40x64x64 .f32) (v15 v25 v35 v43 : FVec Ideal S2x40x64 .f32) (v45 v51 : FVec Ideal S2x1x40x64 .bf16)
    (b : Fin 2) (z : Fin 1) (h : Fin 40) (p : Fin 64) : k0_pay9 (F := Ideal) (k0_pay1 (F := Ideal) v0) acc a13 v15 v25 v35 v43 v45 v51 (ix4 b z h p)
      = Scalar.select (IntOp.cmpi CmpIPredicate.slt a13 (v0 (ix1 b))) (∑ q, k0_pay8 (F := Ideal) acc v25 v35 v43 v45 v51 (ix4 b h p q) * v15 (ix3 b h q)) (0 : EReal) := by
  pointwise [k0_pay9, k0_pay7, k0_pay1]

/-- The query row. -/
theorem pay3_at (v7 : FVec Ideal S2x1x40x64 .fp8e4m3) (v11 : FVec Ideal S2x1x40 .f32) (b : Fin 2) (h : Fin 40) (p : Fin 64) :
    k0_pay3 (F := Ideal) v7 v11 (ix3 b h p) = v7 (ix4 b 0 h p) * v11 (ix3 b 0 h) := by
  pointwise [k0_pay3]

/-- The key row. -/
theorem pay4_at (v7 : FVec Ideal S2x1x40x64 .fp8e4m3) (v11 : FVec Ideal S2x1x40 .f32) (b : Fin 2) (h : Fin 40) (p : Fin 64) :
    k0_pay4 (F := Ideal) v7 v11 (ix3 b h p) = v7 (ix4 b 0 h p) * v11 (ix3 b 0 h) := by
  pointwise [k0_pay4]

/-- The value row. -/
theorem pay5_at (v7 : FVec Ideal S2x1x40x64 .fp8e4m3) (v11 : FVec Ideal S2x1x40 .f32) (b : Fin 2) (h : Fin 40) (p : Fin 64) :
    k0_pay5 (F := Ideal) v7 v11 (ix3 b h p) = v7 (ix4 b 0 h p) * v11 (ix3 b 0 h) := by
  pointwise [k0_pay5]

/-- The decay row. -/
theorem pay6_at (v7 : FVec Ideal S2x1x40x64 .bf16) (b : Fin 2) (h : Fin 40) (p : Fin 64) :
    k0_pay6 (F := Ideal) v7 (ix3 b h p) = Ideal.exp (0 - Ideal.exp (v7 (ix4 b 0 h p))) := by
  pointwise [k0_pay6]

/-- The mask of the state. -/
theorem pay10_at (v0 : IVec S2 32) (a13 : BitVec 32) (b : Fin 2) (h : Fin 40) (p q : Fin 64) :
    k0_pay10 (k0_pay1 (F := Ideal) v0) a13 (ix4 b h p q) = IntOp.cmpi CmpIPredicate.slt a13 (v0 (ix1 b)) := by
  pointwise [k0_pay10, k0_pay1, k0_pay7]

/-- The masked state. -/
theorem pay2_at (acc v75 : FVec Ideal S2x40x64x64 .f32) (v91 : IVec S2x40x64x64 1) (i : S2x40x64x64.Idx) :
    k0_pay2 (F := Ideal) acc v75 v91 i = Scalar.select (v91 i) (v75 i) (acc i) := by
  idx_vars i
  pointwise [k0_pay2]

/-- A choice by the step's validity. -/
theorem sel_ok (n : BitVec 32) (t : Fin 128) (a b : EReal) :
    Scalar.select (IntOp.cmpi CmpIPredicate.slt (BitVec.ofNat 32 t.1) n) a b = if ok n t then a else b := by
  show (if IntOp.cmpi CmpIPredicate.slt (BitVec.ofNat 32 t.1) n = 1#1 then a else b) = _
  have : IntOp.cmpi CmpIPredicate.slt (BitVec.ofNat 32 t.1) n = BitVec.ofBool ((BitVec.ofNat 32 t.1).slt n) := rfl
  rw [this]
  by_cases h : ok n t
  · rw [if_pos h, show (BitVec.ofNat 32 t.1).slt n = true from h]; rfl
  · rw [if_neg h, show (BitVec.ofNat 32 t.1).slt n = false from by simpa using h]; rfl

/-- One entry of a step's new state, before the mask. -/
def newR (X : Arr) (S : Fin 2 → Fin 40 → Matrix (Fin 64) (Fin 64) ℝ) (t : Fin 128) (b : Fin 2) (h : Fin 40) (p q : Fin 64) : ℝ :=
  S b h p q * Real.exp (0 - Real.exp (X.wl b t h q)) + (∑ l, S b h p l * (0 - X.kk b t h l)) * (X.kk b t h q * X.ic b t h q)
    + (X.v b t h p * X.vs b t h) * (X.k b t h q * X.ks b t h)

/-- One entry of the new state, before the mask, on reals. -/
theorem real_at (X : Arr) (S : Fin 2 → Fin 40 → Matrix (Fin 64) (Fin 64) ℝ) (t : Fin 128) (b : Fin 2) (h : Fin 40) (p q : Fin 64) :
    (S b h p q : EReal) * Ideal.exp (0 - Ideal.exp (X.wl b t h q : EReal)) + (∑ l, (S b h p l : EReal) * (0 - (X.kk b t h l : EReal))) * ((X.kk b t h q : EReal) * (X.ic b t h q : EReal))
        + ((X.v b t h p : EReal) * (X.vs b t h : EReal)) * ((X.k b t h q : EReal) * (X.ks b t h : EReal)) = (newR X S t b h p q : EReal) := by
  have e0 : (0 : EReal) = ((0 : ℝ) : EReal) := rfl
  have e1 : Ideal.exp (((0 : ℝ) : EReal) - Ideal.exp (X.wl b t h q : EReal)) = ((Real.exp (0 - Real.exp (X.wl b t h q)) : ℝ) : EReal) := rfl
  rw [e0, e1, newR]
  simp only [← EReal.coe_sub, ← EReal.coe_mul, ← coe_sum, ← EReal.coe_add]

/-- The new state is the recurrence's where the step is valid. -/
theorem newR_eq (X : Arr) (S : Fin 2 → Fin 40 → Matrix (Fin 64) (Fin 64) ℝ) (t : Fin 128) (b : Fin 2) (h : Fin 40) (p q : Fin 64) (ht : ok (X.len (ix1 b)) t) :
    newR X S t b h p q = (X.head b h).step t (S b h) p q := by
  rw [Head.step, if_pos (show ok (X.head b h).n t from ht)]
  rfl

/-- The reference's new state before the mask, on rows of reals. -/
theorem pay8_real (X : Arr) (S : Fin 2 → Fin 40 → Matrix (Fin 64) (Fin 64) ℝ) (t : Fin 128) (v25 v35 v43 : FVec Ideal S2x40x64 .f32) (v45 v51 : FVec Ideal S2x1x40x64 .bf16)
    (h25 : ∀ b h q, v25 (ix3 b h q) = (X.k b t h q : EReal) * (X.ks b t h : EReal)) (h35 : ∀ b h q, v35 (ix3 b h q) = (X.v b t h q : EReal) * (X.vs b t h : EReal))
    (h43 : ∀ b h q, v43 (ix3 b h q) = Ideal.exp (0 - Ideal.exp (X.wl b t h q : EReal))) (h45 : ∀ b h q, v45 (ix4 b 0 h q) = (X.kk b t h q : EReal))
    (h51 : ∀ b h q, v51 (ix4 b 0 h q) = (X.ic b t h q : EReal)) (b : Fin 2) (h : Fin 40) (p q : Fin 64) :
    k0_pay8 (F := Ideal) (up4 (φ := .f32) S) v25 v35 v43 v45 v51 (ix4 b h p q) = (newR X S t b h p q : EReal) := by
  rw [pay8_at, h25, h35, h43, h45, h51, Finset.sum_congr rfl fun l _ => congrArg (fun x : EReal => up4 (φ := .f32) S (ix4 b h p l) * (0 - x)) (h45 b h l)]
  exact real_at X S t b h p q

/-- The reference's output of a step, on rows of reals. -/
theorem pay9_real (X : Arr) (S : Fin 2 → Fin 40 → Matrix (Fin 64) (Fin 64) ℝ) (t : Fin 128) (v15 v25 v35 v43 : FVec Ideal S2x40x64 .f32) (v45 v51 : FVec Ideal S2x1x40x64 .bf16)
    (h15 : ∀ b h q, v15 (ix3 b h q) = (X.r b t h q : EReal) * (X.rs b t h : EReal))
    (h25 : ∀ b h q, v25 (ix3 b h q) = (X.k b t h q : EReal) * (X.ks b t h : EReal)) (h35 : ∀ b h q, v35 (ix3 b h q) = (X.v b t h q : EReal) * (X.vs b t h : EReal))
    (h43 : ∀ b h q, v43 (ix3 b h q) = Ideal.exp (0 - Ideal.exp (X.wl b t h q : EReal))) (h45 : ∀ b h q, v45 (ix4 b 0 h q) = (X.kk b t h q : EReal))
    (h51 : ∀ b h q, v51 (ix4 b 0 h q) = (X.ic b t h q : EReal)) (b : Fin 2) (z : Fin 1) (h : Fin 40) (p : Fin 64) :
    k0_pay9 (F := Ideal) (k0_pay1 (F := Ideal) X.len) (up4 (φ := .f32) S) (BitVec.ofNat 32 t.1) v15 v25 v35 v43 v45 v51 (ix4 b z h p)
      = ((if ok (X.head b h).n t then ∑ q, (X.head b h).step t (S b h) p q * ((X.head b h).r q t * (X.head b h).rs t) else 0 : ℝ) : EReal) := by
  rw [pay9_at, sel_ok]
  by_cases ht : ok (X.len (ix1 b)) t
  · rw [if_pos ht, if_pos (show ok (X.head b h).n t from ht), coe_sum]
    refine Finset.sum_congr rfl fun q _ => ?_
    rw [pay8_real X S t v25 v35 v43 v45 v51 h25 h35 h43 h45 h51, h15, newR_eq X S _ _ _ _ _ ht, EReal.coe_mul, EReal.coe_mul]
    rfl
  · rw [if_neg ht, if_neg (show ¬ ok (X.head b h).n t from ht)]
    rfl

/-- What a trip yields. -/
theorem tripR_eq (𝒱) (c bd) (arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 k acc) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 k acc
      = k0_pay2 acc (k0_pay8 acc (k0_pay4 (View.readAt (Elt Ideal) arg1.view (Rect.unit (s := S2x128x40x64) (k0_off1 k) S2x1x40x64.size (k0_off1_inb k)).toLoadRect X_arg1) (View.readAt (Elt Ideal) arg4.view (Rect.unit (s := S2x128x40) (k0_off2 k) S2x1x40.size (k0_off2_inb k)).toLoadRect X_arg4)) (k0_pay5 (View.readAt (Elt Ideal) arg2.view (Rect.unit (s := S2x128x40x64) (k0_off1 k) S2x1x40x64.size (k0_off1_inb k)).toLoadRect X_arg2) (View.readAt (Elt Ideal) arg5.view (Rect.unit (s := S2x128x40) (k0_off2 k) S2x1x40.size (k0_off2_inb k)).toLoadRect X_arg5)) (k0_pay6 (View.readAt (Elt Ideal) arg6.view (Rect.unit (s := S2x128x40x64) (k0_off1 k) S2x1x40x64.size (k0_off1_inb k)).toLoadRect X_arg6)) (View.readAt (Elt Ideal) arg7.view (Rect.unit (s := S2x128x40x64) (k0_off1 k) S2x1x40x64.size (k0_off1_inb k)).toLoadRect X_arg7) (View.readAt (Elt Ideal) arg8.view (Rect.unit (s := S2x128x40x64) (k0_off1 k) S2x1x40x64.size (k0_off1_inb k)).toLoadRect X_arg8)) (k0_pay10 (k0_pay1 (F := Ideal) v0) (Scf.iv 0#32 1#32 k.1)) := by
  unfold tripR_k0_t1 trip_k0_t1
  dsimp only
  unfold trip_k0_t1.sl.r_4 trip_k0_t1.sl.r_5 trip_k0_t1.sl.r_1 trip_k0_t1.sl.r_2 trip_k0_t1.sl.r_3
  rfl

/-- What a trip writes. -/
theorem tripL_eq (𝒱) (c bd) (arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 k acc) :
    tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 v0 X_arg0 X_arg1 X_arg2 X_arg3 X_arg4 X_arg5 X_arg6 X_arg7 X_arg8 k acc
      = [⟨Rect.unit (s := S2x128x40x64) (k0_off1 k) S2x1x40x64.size (k0_off1_inb k), k0_pay9 (k0_pay1 (F := Ideal) v0) acc (Scf.iv 0#32 1#32 k.1) (k0_pay3 (View.readAt (Elt Ideal) arg0.view (Rect.unit (s := S2x128x40x64) (k0_off1 k) S2x1x40x64.size (k0_off1_inb k)).toLoadRect X_arg0) (View.readAt (Elt Ideal) arg3.view (Rect.unit (s := S2x128x40) (k0_off2 k) S2x1x40.size (k0_off2_inb k)).toLoadRect X_arg3)) (k0_pay4 (View.readAt (Elt Ideal) arg1.view (Rect.unit (s := S2x128x40x64) (k0_off1 k) S2x1x40x64.size (k0_off1_inb k)).toLoadRect X_arg1) (View.readAt (Elt Ideal) arg4.view (Rect.unit (s := S2x128x40) (k0_off2 k) S2x1x40.size (k0_off2_inb k)).toLoadRect X_arg4)) (k0_pay5 (View.readAt (Elt Ideal) arg2.view (Rect.unit (s := S2x128x40x64) (k0_off1 k) S2x1x40x64.size (k0_off1_inb k)).toLoadRect X_arg2) (View.readAt (Elt Ideal) arg5.view (Rect.unit (s := S2x128x40) (k0_off2 k) S2x1x40.size (k0_off2_inb k)).toLoadRect X_arg5)) (k0_pay6 (View.readAt (Elt Ideal) arg6.view (Rect.unit (s := S2x128x40x64) (k0_off1 k) S2x1x40x64.size (k0_off1_inb k)).toLoadRect X_arg6)) (View.readAt (Elt Ideal) arg7.view (Rect.unit (s := S2x128x40x64) (k0_off1 k) S2x1x40x64.size (k0_off1_inb k)).toLoadRect X_arg7) (View.readAt (Elt Ideal) arg8.view (Rect.unit (s := S2x128x40x64) (k0_off1 k) S2x1x40x64.size (k0_off1_inb k)).toLoadRect X_arg8)⟩] := by
  unfold tripL_k0_t1 trip_k0_t1
  dsimp only
  unfold trip_k0_t1.sl.arg13 trip_k0_t1.sl.r trip_k0_t1.sl.r_1 trip_k0_t1.sl.r_2 trip_k0_t1.sl.r_3
  rfl

variable (X : Arr) (S : Fin 2 → Fin 40 → Matrix (Fin 64) (Fin 64) ℝ)

/-- A trip from a state of reals yields the recurrence's next state. -/
theorem stepR (𝒱) (c bd) (arg0 harg0 arg1 harg1 arg2 harg2 arg3 harg3 arg4 harg4 arg5 harg5 arg6 harg6 arg7 harg7 arg8 harg8 arg9 harg9 arg10 harg10 arg11 harg11 arg12 harg12 k) :
    tripR_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) k (up4 (φ := .f32) S) = (up4 (φ := .f32) fun b h => (X.head b h).step (kf k) (S b h)) := by
  rw [tripR_eq]
  funext i
  idx_vars i
  rw [pay2_at, pay10_at, iv_eq, sel_ok]
  rw [pay8_real X S (kf k) _ _ _ _ _ (fun b h q => (pay4_at _ _ b h q).trans (by rw [rd4, rd3]; rfl)) (fun b h q => (pay5_at _ _ b h q).trans (by rw [rd4, rd3]; rfl))
    (fun b h q => (pay6_at _ b h q).trans (by rw [rd4]; rfl)) (fun b h q => by rw [rd4]; rfl) (fun b h q => by rw [rd4]; rfl)]
  by_cases ht : ok (X.len (ix1 i0)) (kf k)
  · rw [if_pos ht, newR_eq X S _ _ _ _ _ ht]
    rfl
  · rw [if_neg ht]
    show (S i0 i1 i2 i3 : EReal) = ((X.head i0 i1).step (kf k) (S i0 i1) i2 i3 : EReal)
    rw [Head.step, if_neg (show ¬ ok (X.head i0 i1).n (kf k) from ht)]

/-- A trip from a state of reals writes the recurrence's outputs. -/
theorem stepL (𝒱) (c bd) (arg0 harg0 arg1 harg1 arg2 harg2 arg3 harg3 arg4 harg4 arg5 harg5 arg6 harg6 arg7 harg7 arg8 harg8 arg9 harg9 arg10 harg10 arg11 harg11 arg12 harg12 k) :
    tripL_k0_t1 (F := Ideal) 𝒱 c bd arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) k (up4 (φ := .f32) S)
      = [⟨Rect.unit (s := S2x128x40x64) (k0_off1 k) S2x1x40x64.size (k0_off1_inb k), (up4 (φ := .bf16) fun b (_ : Fin 1) h p =>
          if ok (X.head b h).n (kf k) then ∑ q, (X.head b h).step (kf k) (S b h) p q * ((X.head b h).r q (kf k) * (X.head b h).rs (kf k)) else 0)⟩] := by
  rw [tripL_eq]
  refine congrArg (fun v => [(⟨Rect.unit (s := S2x128x40x64) (k0_off1 k) S2x1x40x64.size (k0_off1_inb k), v⟩ : View.Piece (Elt Ideal) S2x128x40x64 .bf16)]) ?_
  funext i
  idx_vars i
  rw [iv_eq]
  exact pay9_real X S (kf k) _ _ _ _ _ _ (fun b h q => (pay3_at _ _ b h q).trans (by rw [rd4, rd3]; rfl)) (fun b h q => (pay4_at _ _ b h q).trans (by rw [rd4, rd3]; rfl)) (fun b h q => (pay5_at _ _ b h q).trans (by rw [rd4, rd3]; rfl))
    (fun b h q => (pay6_at _ b h q).trans (by rw [rd4]; rfl)) (fun b h q => by rw [rd4]; rfl) (fun b h q => by rw [rd4]; rfl) i0 i1 i2 i3

end Cert.WKV.Ref
-- ==== Proof.RefLoop.lean ====
module

public import proofs.«01_k».proof.Proof.RefStep

/-! The reference's loop on arrays of reals: its state is the recurrence's, its pieces are the outputs' rows. -/

@[expose] public section

set_option maxRecDepth 16384

noncomputable section

namespace Cert.WKV.Ref

open Idealize.ShloMosaic Idealize.ShloMosaic.TcCoe Cert.ReferenceIdeal Cert.ReferenceIdeal.Gen

/-- The output of a step, from the state before it. -/
theorem y_eq (H : Head) (t : Fin 128) (p : Fin 64) :
    (if ok H.n t then ∑ q, H.step t (H.st t.1) p q * (H.r q t * H.rs t) else 0) = H.y p t := by
  unfold Head.y
  rw [H.st_succ t]

variable (X : Arr) (c : Dev nD) (arg0 : Memref sig .tc .vmem S2x128x40x64 .fp8e4m3) (harg0 : arg0.IsWhole) (arg1 : Memref sig .tc .vmem S2x128x40x64 .fp8e4m3) (harg1 : arg1.IsWhole) (arg2 : Memref sig .tc .vmem S2x128x40x64 .fp8e4m3) (harg2 : arg2.IsWhole) (arg3 : Memref sig .tc .vmem S2x128x40 .f32) (harg3 : arg3.IsWhole) (arg4 : Memref sig .tc .vmem S2x128x40 .f32) (harg4 : arg4.IsWhole) (arg5 : Memref sig .tc .vmem S2x128x40 .f32) (harg5 : arg5.IsWhole) (arg6 : Memref sig .tc .vmem S2x128x40x64 .bf16) (harg6 : arg6.IsWhole) (arg7 : Memref sig .tc .vmem S2x128x40x64 .bf16) (harg7 : arg7.IsWhole) (arg8 : Memref sig .tc .vmem S2x128x40x64 .bf16) (harg8 : arg8.IsWhole) (arg9 : Memref sig .tc .vmem S2x40x64x64 .f32) (harg9 : arg9.IsWhole) (arg10 : Memref sig .tc .vmem S2 .i32) (harg10 : arg10.IsWhole) (arg11 : Memref sig .tc .vmem S2x128x40x64 .bf16) (harg11 : arg11.IsWhole) (arg12 : Memref sig .tc .vmem S2x40x64x64 .f32) (harg12 : arg12.IsWhole)

/-- The state the loop carries before trip `k`. -/
theorem st_fst (k : ℕ) (hk : k ≤ 128) : (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) k).1 = (up4 (φ := .f32) fun b h => (X.head b h).st k) := by
  induction k with
  | zero => rfl
  | succ k ih =>
    refine (congrArg Prod.fst (st_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) ⟨k, hk⟩)).trans ?_
    show tripR_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) ⟨k, hk⟩ (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) k).1 = _
    rw [ih (Nat.le_of_succ_le hk), stepR]
    refine congrArg (up4 (φ := .f32)) (funext fun b => funext fun h => ?_)
    exact ((X.head b h).st_succ ⟨k, hk⟩).symm

/-- Every row written before trip `k` holds the outputs. -/
theorem st_snd (k : ℕ) (hk : k ≤ 128) (y : S2x128x40x64.Idx) : View.AllAt (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) k).2 y (X.Y y) := by
  induction k with
  | zero => exact View.allAt_nil y _
  | succ k ih =>
    have e := congrArg Prod.snd (st_k0_t1_succ (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) ⟨k, hk⟩)
    have e' : (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) (k + 1)).2 = tripL_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) ⟨k, hk⟩ (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) k).1 ++ (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) k).2 := e
    rw [e', st_fst X c arg0 harg0 arg1 harg1 arg2 harg2 arg3 harg3 arg4 harg4 arg5 harg5 arg6 harg6 arg7 harg7 arg8 harg8 arg9 harg9 arg10 harg10 arg11 harg11 arg12 harg12 k (Nat.le_of_succ_le hk), stepL]
    refine View.allAt_cons_unit _ _ _ _ _ (fun x hx => ?_) (ih (Nat.le_of_succ_le hk))
    have h0 : (y 0).1 = k0_off1 ⟨k, hk⟩ 0 + (x 0).1 := hx 0
    have h1 : (y 1).1 = k0_off1 ⟨k, hk⟩ 1 + (x 1).1 := hx 1
    have h2 : (y 2).1 = k0_off1 ⟨k, hk⟩ 2 + (x 2).1 := hx 2
    have h3 : (y 3).1 = k0_off1 ⟨k, hk⟩ 3 + (x 3).1 := hx 3
    rw [off1_eq] at h0 h1 h2 h3
    have hx1 : (x 1).1 < 1 := (x 1).2
    have f0 : (y 0).1 = 0 + (x 0).1 := h0
    have f1 : (y 1).1 = k + (x 1).1 := h1
    have f2 : (y 2).1 = 0 + (x 2).1 := h2
    have f3 : (y 3).1 = 0 + (x 3).1 := h3
    have g0 : (x 0 : Fin 2) = (y 0 : Fin 2) := Fin.ext (by omega)
    have g1 : kf ⟨k, hk⟩ = (y 1 : Fin 128) := Fin.ext (by show k = _; omega)
    have g2 : (x 2 : Fin 40) = (y 2 : Fin 40) := Fin.ext (by omega)
    have g3 : (x 3 : Fin 64) = (y 3 : Fin 64) := Fin.ext (by omega)
    show ((if ok (X.head (x 0 : Fin 2) (x 2 : Fin 40)).n (kf ⟨k, hk⟩) then ∑ q, (X.head (x 0 : Fin 2) (x 2 : Fin 40)).step (kf ⟨k, hk⟩) ((X.head (x 0 : Fin 2) (x 2 : Fin 40)).st (kf ⟨k, hk⟩).1) (x 3 : Fin 64) q * ((X.head (x 0 : Fin 2) (x 2 : Fin 40)).r q (kf ⟨k, hk⟩) * (X.head (x 0 : Fin 2) (x 2 : Fin 40)).rs (kf ⟨k, hk⟩)) else 0 : ℝ) : EReal)
      = (((X.head (y 0 : Fin 2) (y 2 : Fin 40)).y (y 3 : Fin 64) (y 1 : Fin 128) : ℝ) : EReal)
    rw [g0, g1, g2, g3]
    exact congrArg (fun x : ℝ => (x : EReal)) (y_eq (X.head (y 0 : Fin 2) (y 2 : Fin 40)) (y 1 : Fin 128) (y 3 : Fin 64))

/-- What the reference's body leaves in the outputs' buffer. -/
theorem out11 : out0_A_11 (F := Ideal) c arg0 harg0 arg1 harg1 arg2 harg2 arg3 harg3 arg4 harg4 arg5 harg5 arg6 harg6 arg7 harg7 arg8 harg8 arg9 harg9 arg10 harg10 arg11 harg11 arg12 harg12 (up4 (φ := .fp8e4m3) X.r) (up4 (φ := .fp8e4m3) X.k) (up4 (φ := .fp8e4m3) X.v) (up3 (φ := .f32) X.rs) (up3 (φ := .f32) X.ks) (up3 (φ := .f32) X.vs) (up4 (φ := .bf16) X.wl) (up4 (φ := .bf16) X.kk) (up4 (φ := .bf16) X.ic) (up4 (φ := .f32) X.s0) X.len = X.Y := by
  funext y
  unfold out0_A_11
  rw [View.read_writes_junk_eq_canon]
  refine View.canon_eq_of_allAt _ y _ (cover0_A_11 (F := Ideal) c arg0 harg0 arg1 harg1 arg2 harg2 arg3 harg3 arg4 harg4 arg5 harg5 arg6 harg6 arg7 harg7 arg8 harg8 arg9 harg9 arg10 harg10 arg11 harg11 arg12 harg12 (up4 (φ := .fp8e4m3) X.r) (up4 (φ := .fp8e4m3) X.k) (up4 (φ := .fp8e4m3) X.v) (up3 (φ := .f32) X.rs) (up3 (φ := .f32) X.ks) (up3 (φ := .f32) X.vs) (up4 (φ := .bf16) X.wl) (up4 (φ := .bf16) X.kk) (up4 (φ := .bf16) X.ic) (up4 (φ := .f32) X.s0) X.len y) ?_
  have e : (kernelRun0_A (F := Ideal) c arg0 harg0 arg1 harg1 arg2 harg2 arg3 harg3 arg4 harg4 arg5 harg5 arg6 harg6 arg7 harg7 arg8 harg8 arg9 harg9 arg10 harg10 arg11 harg11 arg12 harg12 (up4 (φ := .fp8e4m3) X.r) (up4 (φ := .fp8e4m3) X.k) (up4 (φ := .fp8e4m3) X.v) (up3 (φ := .f32) X.rs) (up3 (φ := .f32) X.ks) (up3 (φ := .f32) X.vs) (up4 (φ := .bf16) X.wl) (up4 (φ := .bf16) X.kk) (up4 (φ := .bf16) X.ic) (up4 (φ := .f32) X.s0) X.len).1 = (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) 128).2 := by
    unfold kernelRun0_A
    dsimp only
    rw [View.readAt_eq_ld, View.readAt_eq_ld, Memref.IsWhole.read_unread, Memref.IsWhole.read_unread, View.ld_unit_zero (by decide), View.ld_unit_zero (by decide)]
    rfl
  rw [e]
  exact st_snd X c arg0 harg0 arg1 harg1 arg2 harg2 arg3 harg3 arg4 harg4 arg5 harg5 arg6 harg6 arg7 harg7 arg8 harg8 arg9 harg9 arg10 harg10 arg11 harg11 arg12 harg12 128 (le_refl _) y

/-- What the reference's body leaves in the final states' buffer. -/
theorem out12 : out0_A_12 (F := Ideal) c arg0 harg0 arg1 harg1 arg2 harg2 arg3 harg3 arg4 harg4 arg5 harg5 arg6 harg6 arg7 harg7 arg8 harg8 arg9 harg9 arg10 harg10 arg11 harg11 arg12 harg12 (up4 (φ := .fp8e4m3) X.r) (up4 (φ := .fp8e4m3) X.k) (up4 (φ := .fp8e4m3) X.v) (up3 (φ := .f32) X.rs) (up3 (φ := .f32) X.ks) (up3 (φ := .f32) X.vs) (up4 (φ := .bf16) X.wl) (up4 (φ := .bf16) X.kk) (up4 (φ := .bf16) X.ic) (up4 (φ := .f32) X.s0) X.len = X.S := by
  funext y
  unfold out0_A_12
  rw [View.read_writes_junk_eq_canon]
  refine View.canon_eq_of_allAt _ y _ (cover0_A_12 (F := Ideal) c arg0 harg0 arg1 harg1 arg2 harg2 arg3 harg3 arg4 harg4 arg5 harg5 arg6 harg6 arg7 harg7 arg8 harg8 arg9 harg9 arg10 harg10 arg11 harg11 arg12 harg12 (up4 (φ := .fp8e4m3) X.r) (up4 (φ := .fp8e4m3) X.k) (up4 (φ := .fp8e4m3) X.v) (up3 (φ := .f32) X.rs) (up3 (φ := .f32) X.ks) (up3 (φ := .f32) X.vs) (up4 (φ := .bf16) X.wl) (up4 (φ := .bf16) X.kk) (up4 (φ := .bf16) X.ic) (up4 (φ := .f32) X.s0) X.len y) ?_
  have e : (kernelRun0_A (F := Ideal) c arg0 harg0 arg1 harg1 arg2 harg2 arg3 harg3 arg4 harg4 arg5 harg5 arg6 harg6 arg7 harg7 arg8 harg8 arg9 harg9 arg10 harg10 arg11 harg11 arg12 harg12 (up4 (φ := .fp8e4m3) X.r) (up4 (φ := .fp8e4m3) X.k) (up4 (φ := .fp8e4m3) X.v) (up3 (φ := .f32) X.rs) (up3 (φ := .f32) X.ks) (up3 (φ := .f32) X.vs) (up4 (φ := .bf16) X.wl) (up4 (φ := .bf16) X.kk) (up4 (φ := .bf16) X.ic) (up4 (φ := .f32) X.s0) X.len).2.1 = [⟨Rect.unit (s := S2x40x64x64) ![0, 0, 0, 0] ![2, 40, 64, 64] inb_S2x40x64x64_S2x40x64x64_0_0_0_0, (st_k0_t1 (F := Ideal) Variants.none c none arg0 harg0 arg1 harg1 arg2 harg2 arg3 harg3 arg4 harg4 arg5 harg5 arg6 harg6 arg7 harg7 arg8 harg8 arg9 harg9 arg10 harg10 arg11 harg11 arg12 harg12 X.len (harg0.unread (up4 (φ := .fp8e4m3) X.r)) (harg1.unread (up4 (φ := .fp8e4m3) X.k)) (harg2.unread (up4 (φ := .fp8e4m3) X.v)) (harg3.unread (up3 (φ := .f32) X.rs)) (harg4.unread (up3 (φ := .f32) X.ks)) (harg5.unread (up3 (φ := .f32) X.vs)) (harg6.unread (up4 (φ := .bf16) X.wl)) (harg7.unread (up4 (φ := .bf16) X.kk)) (harg8.unread (up4 (φ := .bf16) X.ic)) (up4 (φ := .f32) X.s0) 128).1⟩] := by
    unfold kernelRun0_A
    dsimp only
    rw [View.readAt_eq_ld, View.readAt_eq_ld, Memref.IsWhole.read_unread, Memref.IsWhole.read_unread, View.ld_unit_zero (by decide), View.ld_unit_zero (by decide)]
    rfl
  rw [e, st_fst X c arg0 harg0 arg1 harg1 arg2 harg2 arg3 harg3 arg4 harg4 arg5 harg5 arg6 harg6 arg7 harg7 arg8 harg8 arg9 harg9 arg10 harg10 arg11 harg11 arg12 harg12 128 (le_refl _)]
  refine View.allAt_cons_unit _ _ _ _ _ (fun x hx => ?_) (View.allAt_nil y _)
  have h0 : (y 0).1 = 0 + (x 0).1 := hx 0
  have h1 : (y 1).1 = 0 + (x 1).1 := hx 1
  have h2 : (y 2).1 = 0 + (x 2).1 := hx 2
  have h3 : (y 3).1 = 0 + (x 3).1 := hx 3
  have g0 : (x 0 : Fin 2) = (y 0 : Fin 2) := Fin.ext (by omega)
  have g1 : (x 1 : Fin 40) = (y 1 : Fin 40) := Fin.ext (by omega)
  have g2 : (x 2 : Fin 64) = (y 2 : Fin 64) := Fin.ext (by omega)
  have g3 : (x 3 : Fin 64) = (y 3 : Fin 64) := Fin.ext (by omega)
  show (((X.head (x 0 : Fin 2) (x 1 : Fin 40)).st 128 (x 2 : Fin 64) (x 3 : Fin 64) : ℝ) : EReal) = (((X.head (y 0 : Fin 2) (y 1 : Fin 40)).st 128 (y 2 : Fin 64) (y 3 : Fin 64) : ℝ) : EReal)
  rw [g0, g1, g2, g3]

end Cert.WKV.Ref
-- ==== Proof.RefArr.lean ====
module

public import proofs.«01_k».proof.Proof.RefLoop

/-! The reference's result arrays on arguments of reals. -/

@[expose] public section

set_option maxRecDepth 16384

noncomputable section

namespace Cert.WKV.Ref

open Idealize.ShloMosaic Idealize.ShloMosaic.TcCoe Idealize.SL.Sem Cert.ReferenceIdeal Cert.ReferenceIdeal.Gen

/-- Every window has one block, the whole array. -/
theorem idx0 : ∀ t : Fin cfg0.N, win0_0.index t = ![0, 0, 0, 0] ∧ win0_1.index t = ![0, 0, 0, 0] ∧ win0_2.index t = ![0, 0, 0, 0] ∧ win0_3.index t = ![0, 0, 0] ∧ win0_4.index t = ![0, 0, 0] ∧ win0_5.index t = ![0, 0, 0] ∧ win0_6.index t = ![0, 0, 0, 0] ∧ win0_7.index t = ![0, 0, 0, 0] ∧ win0_8.index t = ![0, 0, 0, 0] ∧ win0_9.index t = ![0, 0, 0, 0] ∧ win0_10.index t = ![0] ∧ win0_11.index t = ![0, 0, 0, 0] ∧ win0_12.index t = ![0, 0, 0, 0] :=
  (by decide +kernel : ∀ t : Fin grid0.N, _)

/-- Entries of an array of 3 axes at equal positions are equal. -/
theorem at3 {α : Type} {a c d : ℕ} (f : Fin a → Matrix (Fin c) (Fin d) α) {i i' : Fin a} {k k' : Fin c} {l l' : Fin d}
    (hi : i.1 = i'.1) (hk : k.1 = k'.1) (hl : l.1 = l'.1) : f i k l = f i' k' l' := by
  rw [Fin.ext hi, Fin.ext hk, Fin.ext hl]

/-- Entries of an array of 4 axes at equal positions are equal. -/
theorem at4 {α : Type} {a b c d : ℕ} (f : Fin a → Fin b → Matrix (Fin c) (Fin d) α) {i i' : Fin a} {j j' : Fin b} {k k' : Fin c} {l l' : Fin d}
    (hi : i.1 = i'.1) (hj : j.1 = j'.1) (hk : k.1 = k'.1) (hl : l.1 = l'.1) : f i j k l = f i' j' k' l' := by
  rw [Fin.ext hi, Fin.ext hj, Fin.ext hk, Fin.ext hl]

/-- A rounding of reals is those reals. -/
theorem cv4 (f : Fin 2 → Fin 128 → Matrix (Fin 40) (Fin 64) ℝ) :
    Host.convertf (F := Ideal) .fp8e4m3 (up4 (φ := .f32) f) = (up4 (φ := .fp8e4m3) f) := rfl

variable (m : (ℓ : Loc nD τ sig) → Buf (Elt Ideal) ℓ) (X : Arr) (c : Dev nD)
  (hX : X.Is (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)))

include hX

omit hX in
/-- Operand 0 of the reference, from the arguments. -/
theorem raw0 : V m c main_v0 = Host.convertf (F := Ideal) (s := S2x128x40x64) (φ := .f32) .fp8e4m3 (m ((c : Thread nD τ).loc main_arg0)) := rfl

/-- Operand 0 of the reference is an array of reals. -/
theorem arr0 : V m c main_v0 = (up4 (φ := .fp8e4m3) X.r) := by
  rw [raw0, hX.e0, cv4]

/-- The block the body reads of argument 0. -/
theorem blk0 (t : Fin cfg0.N) : iblk m c 0 t = (up4 (φ := .fp8e4m3) X.r) := by
  have hi := idx0 t
  funext y
  show V m c main_v0 (((cfg0.win 0).blk t).view.emb y) = _
  rw [arr0 m X c hX]
  idx_vars y
  refine congrArg Real.toEReal (at4 X.r ?_ ?_ ?_ ?_)
  · blk_simp [hi.1]
  · blk_simp [hi.1]
  · blk_simp [hi.1]
  · blk_simp [hi.1]

omit hX in
/-- Operand 1 of the reference, from the arguments. -/
theorem raw1 : V m c main_v1 = Host.convertf (F := Ideal) (s := S2x128x40x64) (φ := .f32) .fp8e4m3 (m ((c : Thread nD τ).loc main_arg1)) := rfl

/-- Operand 1 of the reference is an array of reals. -/
theorem arr1 : V m c main_v1 = (up4 (φ := .fp8e4m3) X.k) := by
  rw [raw1, hX.e1, cv4]

/-- The block the body reads of argument 1. -/
theorem blk1 (t : Fin cfg0.N) : iblk m c 1 t = (up4 (φ := .fp8e4m3) X.k) := by
  have hi := idx0 t
  funext y
  show V m c main_v1 (((cfg0.win 1).blk t).view.emb y) = _
  rw [arr1 m X c hX]
  idx_vars y
  refine congrArg Real.toEReal (at4 X.k ?_ ?_ ?_ ?_)
  · blk_simp [hi.2.1]
  · blk_simp [hi.2.1]
  · blk_simp [hi.2.1]
  · blk_simp [hi.2.1]

omit hX in
/-- Operand 2 of the reference, from the arguments. -/
theorem raw2 : V m c main_v2 = Host.convertf (F := Ideal) (s := S2x128x40x64) (φ := .f32) .fp8e4m3 (m ((c : Thread nD τ).loc main_arg2)) := rfl

/-- Operand 2 of the reference is an array of reals. -/
theorem arr2 : V m c main_v2 = (up4 (φ := .fp8e4m3) X.v) := by
  rw [raw2, hX.e2, cv4]

/-- The block the body reads of argument 2. -/
theorem blk2 (t : Fin cfg0.N) : iblk m c 2 t = (up4 (φ := .fp8e4m3) X.v) := by
  have hi := idx0 t
  funext y
  show V m c main_v2 (((cfg0.win 2).blk t).view.emb y) = _
  rw [arr2 m X c hX]
  idx_vars y
  refine congrArg Real.toEReal (at4 X.v ?_ ?_ ?_ ?_)
  · blk_simp [hi.2.2.1]
  · blk_simp [hi.2.2.1]
  · blk_simp [hi.2.2.1]
  · blk_simp [hi.2.2.1]

/-- Operand 3 of the reference is an array of reals. -/
theorem arr3 : V m c main_arg3 = (up3 (φ := .f32) X.rs) := hX.e3

/-- The block the body reads of argument 3. -/
theorem blk3 (t : Fin cfg0.N) : iblk m c 3 t = (up3 (φ := .f32) X.rs) := by
  have hi := idx0 t
  funext y
  show V m c main_arg3 (((cfg0.win 3).blk t).view.emb y) = _
  rw [arr3 m X c hX]
  idx_vars y
  refine congrArg Real.toEReal (at3 X.rs ?_ ?_ ?_)
  · blk_simp [hi.2.2.2.1]
  · blk_simp [hi.2.2.2.1]
  · blk_simp [hi.2.2.2.1]

/-- Operand 4 of the reference is an array of reals. -/
theorem arr4 : V m c main_arg4 = (up3 (φ := .f32) X.ks) := hX.e4

/-- The block the body reads of argument 4. -/
theorem blk4 (t : Fin cfg0.N) : iblk m c 4 t = (up3 (φ := .f32) X.ks) := by
  have hi := idx0 t
  funext y
  show V m c main_arg4 (((cfg0.win 4).blk t).view.emb y) = _
  rw [arr4 m X c hX]
  idx_vars y
  refine congrArg Real.toEReal (at3 X.ks ?_ ?_ ?_)
  · blk_simp [hi.2.2.2.2.1]
  · blk_simp [hi.2.2.2.2.1]
  · blk_simp [hi.2.2.2.2.1]

/-- Operand 5 of the reference is an array of reals. -/
theorem arr5 : V m c main_arg5 = (up3 (φ := .f32) X.vs) := hX.e5

/-- The block the body reads of argument 5. -/
theorem blk5 (t : Fin cfg0.N) : iblk m c 5 t = (up3 (φ := .f32) X.vs) := by
  have hi := idx0 t
  funext y
  show V m c main_arg5 (((cfg0.win 5).blk t).view.emb y) = _
  rw [arr5 m X c hX]
  idx_vars y
  refine congrArg Real.toEReal (at3 X.vs ?_ ?_ ?_)
  · blk_simp [hi.2.2.2.2.2.1]
  · blk_simp [hi.2.2.2.2.2.1]
  · blk_simp [hi.2.2.2.2.2.1]

/-- Operand 6 of the reference is an array of reals. -/
theorem arr6 : V m c main_arg6 = (up4 (φ := .bf16) X.wl) := hX.e6

/-- The block the body reads of argument 6. -/
theorem blk6 (t : Fin cfg0.N) : iblk m c 6 t = (up4 (φ := .bf16) X.wl) := by
  have hi := idx0 t
  funext y
  show V m c main_arg6 (((cfg0.win 6).blk t).view.emb y) = _
  rw [arr6 m X c hX]
  idx_vars y
  refine congrArg Real.toEReal (at4 X.wl ?_ ?_ ?_ ?_)
  · blk_simp [hi.2.2.2.2.2.2.1]
  · blk_simp [hi.2.2.2.2.2.2.1]
  · blk_simp [hi.2.2.2.2.2.2.1]
  · blk_simp [hi.2.2.2.2.2.2.1]

/-- Operand 7 of the reference is an array of reals. -/
theorem arr7 : V m c main_arg7 = (up4 (φ := .bf16) X.kk) := hX.e7

/-- The block the body reads of argument 7. -/
theorem blk7 (t : Fin cfg0.N) : iblk m c 7 t = (up4 (φ := .bf16) X.kk) := by
  have hi := idx0 t
  funext y
  show V m c main_arg7 (((cfg0.win 7).blk t).view.emb y) = _
  rw [arr7 m X c hX]
  idx_vars y
  refine congrArg Real.toEReal (at4 X.kk ?_ ?_ ?_ ?_)
  · blk_simp [hi.2.2.2.2.2.2.2.1]
  · blk_simp [hi.2.2.2.2.2.2.2.1]
  · blk_simp [hi.2.2.2.2.2.2.2.1]
  · blk_simp [hi.2.2.2.2.2.2.2.1]

/-- Operand 8 of the reference is an array of reals. -/
theorem arr8 : V m c main_arg8 = (up4 (φ := .bf16) X.ic) := hX.e8

/-- The block the body reads of argument 8. -/
theorem blk8 (t : Fin cfg0.N) : iblk m c 8 t = (up4 (φ := .bf16) X.ic) := by
  have hi := idx0 t
  funext y
  show V m c main_arg8 (((cfg0.win 8).blk t).view.emb y) = _
  rw [arr8 m X c hX]
  idx_vars y
  refine congrArg Real.toEReal (at4 X.ic ?_ ?_ ?_ ?_)
  · blk_simp [hi.2.2.2.2.2.2.2.2.1]
  · blk_simp [hi.2.2.2.2.2.2.2.2.1]
  · blk_simp [hi.2.2.2.2.2.2.2.2.1]
  · blk_simp [hi.2.2.2.2.2.2.2.2.1]

/-- Operand 9 of the reference is an array of reals. -/
theorem arr9 : V m c main_arg9 = (up4 (φ := .f32) X.s0) := hX.e9

/-- The block the body reads of argument 9. -/
theorem blk9 (t : Fin cfg0.N) : iblk m c 9 t = (up4 (φ := .f32) X.s0) := by
  have hi := idx0 t
  funext y
  show V m c main_arg9 (((cfg0.win 9).blk t).view.emb y) = _
  rw [arr9 m X c hX]
  idx_vars y
  refine congrArg Real.toEReal (at4 X.s0 ?_ ?_ ?_ ?_)
  · blk_simp [hi.2.2.2.2.2.2.2.2.2.1]
  · blk_simp [hi.2.2.2.2.2.2.2.2.2.1]
  · blk_simp [hi.2.2.2.2.2.2.2.2.2.1]
  · blk_simp [hi.2.2.2.2.2.2.2.2.2.1]

/-- The lengths the body reads. -/
theorem blk10 (t : Fin cfg0.N) : iblk m c 10 t = X.len := by
  have hi := idx0 t
  funext y
  show V m c main_arg10 (((cfg0.win 10).blk t).view.emb y) = _
  rw [show V m c main_arg10 = X.len from hX.e10]
  idx_vars y
  refine congrArg X.len ((eq_ix1 _).trans (congrArg ix1 (Fin.ext ?_)))
  blk_simp [hi.2.2.2.2.2.2.2.2.2.2.1]

/-- What the body leaves of the outputs. -/
theorem left11 (t : Fin cfg0.N) : (outsAt0 m c t).1 = X.Y := by
  unfold outsAt0
  dsimp only
  rw [blk0 m X c hX t, blk1 m X c hX t, blk2 m X c hX t, blk3 m X c hX t, blk4 m X c hX t, blk5 m X c hX t, blk6 m X c hX t, blk7 m X c hX t, blk8 m X c hX t, blk9 m X c hX t, blk10 m X c hX t]
  exact out11 X c _ _ _ _ _ _ _ _ _ _ _ _ _ _ _ _ _ _ _ _ _ _ _ _ _ _

/-- What the body leaves of the final states. -/
theorem left12 (t : Fin cfg0.N) : (outsAt0 m c t).2 = X.S := by
  unfold outsAt0
  dsimp only
  rw [blk0 m X c hX t, blk1 m X c hX t, blk2 m X c hX t, blk3 m X c hX t, blk4 m X c hX t, blk5 m X c hX t, blk6 m X c hX t, blk7 m X c hX t, blk8 m X c hX t, blk9 m X c hX t, blk10 m X c hX t]
  exact out12 X c _ _ _ _ _ _ _ _ _ _ _ _ _ _ _ _ _ _ _ _ _ _ _ _ _ _

omit hX in
/-- The outputs' block is the whole array. -/
theorem place11 (f : Fin 2 → Fin 128 → Matrix (Fin 40) (Fin 64) ℝ) (t : Fin cfg0.N) (y : S2x128x40x64.Idx) :
    up4 (φ := .bf16) f y = up4 (φ := .bf16) f ((win0_11.blk t).view.emb y) := by
  have hi := idx0 t
  idx_vars y
  refine congrArg Real.toEReal (at4 f ?_ ?_ ?_ ?_)
  · blk_simp [hi.2.2.2.2.2.2.2.2.2.2.2.1]
  · blk_simp [hi.2.2.2.2.2.2.2.2.2.2.2.1]
  · blk_simp [hi.2.2.2.2.2.2.2.2.2.2.2.1]
  · blk_simp [hi.2.2.2.2.2.2.2.2.2.2.2.1]

omit hX in
/-- The final states' block is the whole array. -/
theorem place12 (f : Fin 2 → Fin 40 → Matrix (Fin 64) (Fin 64) ℝ) (t : Fin cfg0.N) (y : S2x40x64x64.Idx) :
    up4 (φ := .f32) f y = up4 (φ := .f32) f ((win0_12.blk t).view.emb y) := by
  have hi := idx0 t
  idx_vars y
  refine congrArg Real.toEReal (at4 f ?_ ?_ ?_ ?_)
  · blk_simp [hi.2.2.2.2.2.2.2.2.2.2.2.2]
  · blk_simp [hi.2.2.2.2.2.2.2.2.2.2.2.2]
  · blk_simp [hi.2.2.2.2.2.2.2.2.2.2.2.2]
  · blk_simp [hi.2.2.2.2.2.2.2.2.2.2.2.2]

/-- The outputs' array. -/
theorem final11 : (dats m 0 c).arrAt 11 cfg0.N = X.Y := by
  refine (dats m 0 c).arrAt_eq_of_covers 11 _ (by decide +kernel) fun t hf y => ?_
  have e : (dats m 0 c).after 11 t = _ := (after0_11 m c t).trans (left11 m X c hX t)
  blk_simp
  exact (congrFun e y).trans (place11 (fun b t h p => (X.head b h).y p t) t y)

/-- The final states' array. -/
theorem final12 : (dats m 0 c).arrAt 12 cfg0.N = X.S := by
  refine (dats m 0 c).arrAt_eq_of_covers 12 _ (by decide +kernel) fun t hf y => ?_
  have e : (dats m 0 c).after 12 t = _ := (after0_12 m c t).trans (left12 m X c hX t)
  blk_simp
  exact (congrFun e y).trans (place12 (fun b h => (X.head b h).st 128) t y)

end Cert.WKV.Ref
-- ==== Proof.RefRun.lean ====
module

public import proofs.«01_k».proof.Proof.RefArr

/-! The reference's run on arguments of reals: it ends with the recurrence's outputs and final states. -/

@[expose] public section

set_option maxRecDepth 16384

noncomputable section

namespace Cert.WKV.Ref

open Idealize.ShloMosaic Idealize.ShloMosaic.TcCoe Idealize.SL.Sem Cert.ReferenceIdeal Cert.ReferenceIdeal.Gen

variable (m : (ℓ : Loc nD τ sig) → Buf (Elt Ideal) ℓ) (ρ : Dev nD → PrngReg)

/-- The reference's run. -/
theorem run (X : Dev nD → Arr) (hX : ∀ c : Dev nD, (X c).Is (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) :
    θ_run (defs (F := Ideal)) (onTc (τ := τ) (main (F := Ideal))) ⟨m, fun _ => 0, ρ⟩ (fun r => ∀ c : Dev nD,
      r.2.mem ((c.tc : Thread nD τ).loc main_v3_0) = (X c).Y
      ∧ r.2.mem ((c.tc : Thread nD τ).loc main_v3_1) = (X c).S
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun r h c => ⟨(h c).1.trans (final11 m (X c) c (hX c)), (h c).2.1.trans (final12 m (X c) c (hX c)), (h c).2.2⟩)
    (Value.run_blocks (F := Ideal) m ρ)

end Cert.WKV.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Loops
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Pre_finite
public import proofs.«01_k».proof.Proof.Finite
public import proofs.«01_k».proof.Proof.KRun
public import proofs.«01_k».proof.Proof.RefRun
public import Idealize.ShloMosaic.Adequacy
public import Idealize.ShloMosaic.Init

@[expose] public section

noncomputable section

namespace Cert.Proof

open Idealize.ShloMosaic Idealize.SL.Sem Cert.Kernel

/-- Truncating a word to its upper half is rounding through bf16, at each of the shapes the kernel does it. -/
theorem preserves : Cert.preserves_Kernel_KernelIdeal :=
  ⟨IdealRules.bf16_pack.statement _, IdealRules.bf16_pack.statement _, IdealRules.bf16_pack.statement _,
    IdealRules.bf16_pack.statement _, IdealRules.bf16_pack.statement _⟩

/-- On finite arguments the kernel and the reference end with the same outputs and the same final states: those of the
recurrence on the reals the arguments are. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hex := fun c : Dev Cert.KernelIdeal.nD => Cert.WKV.exists_arr _ _ _ _ _ _ _ _ _ _ _ (hpre c)
  choose X hX using hex
  refine ⟨fun c => (X c).Y, fun c => (X c).S, Cert.WKV.run m g X hX, Cert.WKV.Ref.run m' g' X fun c => ?_⟩
  obtain ⟨e0, e1, e2, e3, e4, e5, e6, e7, e8, e9, e10⟩ := hagree c
  have h := hX c
  exact ⟨e0.trans h.e0, e1.trans h.e1, e2.trans h.e2, e3.trans h.e3, e4.trans h.e4, e5.trans h.e5, e6.trans h.e6, e7.trans h.e7, e8.trans h.e8, e9.trans h.e9, e10.trans h.e10⟩

/-- The frames are the generated ones; the rest is proved above. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, preserves, algebraic⟩

end Cert.Proof

end
